-- ==== Defs.lean ====
def Pre_Kernel [hPre_ids_sorted : Cert.Pre_ids_sorted.Facts] (m : (ℓ : Loc Cert.Kernel.nD Cert.Kernel.τ Cert.Kernel.sig) → Buf (Elt Bits) ℓ) : Prop :=
  ∀ c : Dev Cert.Kernel.nD,
    (Cert.Pre_ids_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_sorted : Cert.Pre_ids_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel) (hPre_ids_sorted := hPre_ids_sorted)
    ∧ quiescent_KernelIdeal (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal (hKernelIdeal := hKernelIdeal) (hReferenceIdeal := hReferenceIdeal) (hPre_ids_sorted := hPre_ids_sorted)
-- ==== Pre_ids_sorted.lean ====
abbrev S6x256x30592 : Shape := ⟨3, ![6, 256, 30592]⟩
abbrev S6x256x239 : Shape := ⟨3, ![6, 256, 239]⟩
abbrev S6x256x384 : Shape := ⟨3, ![6, 256, 384]⟩
abbrev S6x256 : Shape := ⟨2, ![6, 256]⟩
abbrev S1536x384 : Shape := ⟨2, ![1536, 384]⟩
abbrev S1536 : Shape := ⟨1, ![1536]⟩
abbrev S_ : Shape := ⟨0, ![]⟩
abbrev S1 : Shape := ⟨1, ![1]⟩
abbrev S1535 : Shape := ⟨1, ![1535]⟩

class Facts : Prop where
  bcast_S_S1 : S_.BroadcastsInDim S1 (![] : Fin 0 → Fin S1.rank)
  slices_S1536_S1535_0 : S1536.Slices ![0] S1535
  concatenates_S1_S1535_S1536_d0 : Shape.Concatenates [S1, S1535] S1536 0

variable [Facts]

def fn {F : FTy → Type} [FloatOps F] (main_arg0 : FVec F S6x256x30592 .fp8e5m2) (main_arg1 : FVec F S6x256x239 .f32) (main_arg2 : FVec F S6x256x384 .fp8e4m3) (main_arg3 : FVec F S6x256 .f32) (main_arg4 : FVec F S1536x384 .fp8e5m2) (main_arg5 : FVec F S1536 .f32) (main_arg6 : IVec S1536 32) : IVec S1536 1 :=
  let main_c : IVec S_ 32 := constantI S_ 32 0#32
  let main_v0 : IVec S1 32 := broadcastInDim S1 ![] bcast_S_S1 main_c
  let main_v1 : IVec S1535 32 := (extractStridedSlice S1535 ![0] · slices_S1536_S1535_0) main_arg6
  let main_v2 : IVec S1536 32 := (fun a b => concatenate S1536 0 [⟨S1, a⟩, ⟨S1535, b⟩] concatenates_S1_S1535_S1536_d0) main_v0 main_v1
  let main_v3 : IVec S1536 1 := cmpi .sge main_arg6 main_v2
  main_v3
-- ==== Kernel.lean ====
abbrev S6x256x30592 : Shape := ⟨3, ![6, 256, 30592]⟩
abbrev S6x256x239 : Shape := ⟨3, ![6, 256, 239]⟩
abbrev S6x256x384 : Shape := ⟨3, ![6, 256, 384]⟩
abbrev S6x256 : Shape := ⟨2, ![6, 256]⟩
abbrev S1536x384 : Shape := ⟨2, ![1536, 384]⟩
abbrev S1536 : Shape := ⟨1, ![1536]⟩
abbrev S1536x30592 : Shape := ⟨2, ![1536, 30592]⟩
abbrev S384x1536 : Shape := ⟨2, ![384, 1536]⟩
abbrev S1x1536 : Shape := ⟨2, ![1, 1536]⟩
abbrev S1536x239 : Shape := ⟨2, ![1536, 239]⟩
abbrev S_ : Shape := ⟨0, ![]⟩
abbrev S1536x240 : Shape := ⟨2, ![1536, 240]⟩
abbrev S3x32x16x60x4 : Shape := ⟨5, ![3, 32, 16, 60, 4]⟩
abbrev S60x3x16x32x4 : Shape := ⟨5, ![60, 3, 16, 32, 4]⟩
abbrev S60x48x128 : Shape := ⟨3, ![60, 48, 128]⟩
abbrev S1536x1 : Shape := ⟨2, ![1536, 1]⟩
abbrev S30592x384 : Shape := ⟨2, ![30592, 384]⟩
abbrev S1536x512 : Shape := ⟨2, ![1536, 512]⟩
abbrev S1x48x128 : Shape := ⟨3, ![1, 48, 128]⟩
abbrev S512x384 : Shape := ⟨2, ![512, 384]⟩
abbrev S1 : Shape := ⟨1, ![1]⟩
abbrev S16x512 : Shape := ⟨2, ![16, 512]⟩
abbrev S1x16x1 : Shape := ⟨3, ![1, 16, 1]⟩
abbrev S16x1 : Shape := ⟨2, ![16, 1]⟩
abbrev S16x128 : Shape := ⟨2, ![16, 128]⟩
abbrev S384x512 : Shape := ⟨2, ![384, 512]⟩
abbrev S1x384 : Shape := ⟨2, ![1, 384]⟩

abbrev nBuf : Space → Nat
  | .hbm => 21
  | .vmem => 12
  | .smem => 2
  | _ => 0

abbrev bufTy : (tb : Table) → Fin (tcTables nBuf tb) → BufTy
  | .hbm, ⟨0, _⟩ => ⟨S6x256x30592, .fp8e5m2⟩
  | .hbm, ⟨1, _⟩ => ⟨S6x256x239, .f32⟩
  | .hbm, ⟨2, _⟩ => ⟨S6x256x384, .fp8e4m3⟩
  | .hbm, ⟨3, _⟩ => ⟨S6x256, .f32⟩
  | .hbm, ⟨4, _⟩ => ⟨S1536x384, .fp8e5m2⟩
  | .hbm, ⟨5, _⟩ => ⟨S1536, .f32⟩
  | .hbm, ⟨6, _⟩ => ⟨S1536x30592, .fp8e5m2⟩
  | .hbm, ⟨7, _⟩ => ⟨S1536x384, .fp8e4m3⟩
  | .hbm, ⟨8, _⟩ => ⟨S384x1536, .fp8e4m3⟩
  | .hbm, ⟨9, _⟩ => ⟨S1x1536, .f32⟩
  | .hbm, ⟨10, _⟩ => ⟨S1x1536, .bf16⟩
  | .hbm, ⟨11, _⟩ => ⟨S1536x239, .f32⟩
  | .hbm, ⟨12, _⟩ => ⟨S1536x239, .bf16⟩
  | .hbm, ⟨13, _⟩ => ⟨S_, .i32⟩
  | .hbm, ⟨14, _⟩ => ⟨S_, .bf16⟩
  | .hbm, ⟨15, _⟩ => ⟨S1536x240, .bf16⟩
  | .hbm, ⟨16, _⟩ => ⟨S3x32x16x60x4, .bf16⟩
  | .hbm, ⟨17, _⟩ => ⟨S60x3x16x32x4, .bf16⟩
  | .hbm, ⟨18, _⟩ => ⟨S60x48x128, .bf16⟩
  | .hbm, ⟨19, _⟩ => ⟨S1536x1, .f32⟩
  | .hbm, ⟨20, _⟩ => ⟨S30592x384, .f32⟩
  | .local _ .vmem, ⟨0, _⟩ => ⟨S1536x512, .fp8e5m2⟩
  | .local _ .vmem, ⟨1, _⟩ => ⟨S1536x512, .fp8e5m2⟩
  | .local _ .vmem, ⟨2, _⟩ => ⟨S1x48x128, .bf16⟩
  | .local _ .vmem, ⟨3, _⟩ => ⟨S1x48x128, .bf16⟩
  | .local _ .vmem, ⟨4, _⟩ => ⟨S384x1536, .fp8e4m3⟩
  | .local _ .vmem, ⟨5, _⟩ => ⟨S1x1536, .bf16⟩
  | .local _ .vmem, ⟨6, _⟩ => ⟨S1536x384, .fp8e5m2⟩
  | .local _ .vmem, ⟨7, _⟩ => ⟨S1536x1, .f32⟩
  | .local _ .vmem, ⟨8, _⟩ => ⟨S512x384, .f32⟩
  | .local _ .vmem, ⟨9, _⟩ => ⟨S512x384, .f32⟩
  | .local _ .vmem, ⟨10, _⟩ => ⟨S1536x512, .bf16⟩
  | .local _ .vmem, ⟨11, _⟩ => ⟨S1536x384, .f32⟩
  | .local _ .smem, ⟨0, _⟩ => ⟨S1536, .i32⟩
  | .local _ .smem, ⟨1, _⟩ => ⟨S1, .i32⟩
  | _, _ => ⟨S6x256x30592, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![60], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (arg12 : BitVec 32) : Fin 1 → Nat :=
  let c1535_i32 : BitVec 32 := 1535#32
  let v3379 : BitVec 32 := Scalar.minsi arg12 c1535_i32
  let v3381 : Index := Scalar.indexCast v3379
  ![v3381.toNat]

def k0_chk1 (arg12 : BitVec 32) : Prop :=
  (∀ a, (k0_off1 arg12) a + S1.size a ≤ S1536.size a)
theorem k0_off1_inb : ∀ (arg12 : BitVec 32) (k0_hw1 : k0_chk1 arg12), ∀ a, (k0_off1 arg12) a + S1.size a ≤ S1536.size a := fun arg12 k0_hw1 => k0_hw1

def k0_off2 (arg12 : BitVec 32) : Fin 1 → Nat :=
  let v3379 : Index := Scalar.indexCast arg12
  ![v3379.toNat]

def k0_off3 (i : grid0.Coords) (v3380 : BitVec 32) : Fin 2 → Nat :=
  let arg0 : BitVec 32 := BitVec.ofNat 32 (i 0).val
  let c512_i32 : BitVec 32 := 512#32
  let v3374 : BitVec 32 := Scalar.muli arg0 c512_i32
  let v3381 : BitVec 32 := Scalar.subi v3380 v3374
  let v3382 : Index := Scalar.indexCast v3381
  let c0_1908 : Index := 0#32
  ![v3382.toNat, 0]

def k0_chk3 (i : grid0.Coords) (v3380 : BitVec 32) : Prop :=
  (∀ a, (k0_off3 i v3380) a + S1x384.size a ≤ S512x384.size a)
theorem k0_off3_inb : ∀ (i : grid0.Coords) (v3380 : BitVec 32) (k0_hw3 : k0_chk3 i v3380), ∀ a, (k0_off3 i v3380) a + S1x384.size a ≤ S512x384.size a := fun i v3380 k0_hw3 => k0_hw3

def k0_off4 (arg12 : BitVec 32) : Fin 2 → Nat :=
  let v3385 : Index := Scalar.indexCast arg12
  let c0_1909 : Index := 0#32
  ![v3385.toNat, 0]

def k0_chk2 (arg12 : BitVec 32) : Prop :=
  (∀ a, (k0_off2 arg12) a + S1.size a ≤ S1536.size a) ∧
  (∀ a, (k0_off4 arg12) a + S1x384.size a ≤ S1536x384.size a)
theorem k0_off2_inb : ∀ (arg12 : BitVec 32) (k0_hw2 : k0_chk2 arg12), ∀ a, (k0_off2 arg12) a + S1.size a ≤ S1536.size a := fun arg12 k0_hw2 => k0_hw2.1
theorem k0_off4_inb : ∀ (arg12 : BitVec 32) (k0_hw2 : k0_chk2 arg12), ∀ a, (k0_off4 arg12) a + S1x384.size a ≤ S1536x384.size a := fun arg12 k0_hw2 => k0_hw2.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x512 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x48x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x384 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x256x30592 : Shape := ⟨3, ![6, 256, 30592]⟩
abbrev S6x256x239 : Shape := ⟨3, ![6, 256, 239]⟩
abbrev S6x256x384 : Shape := ⟨3, ![6, 256, 384]⟩
abbrev S6x256 : Shape := ⟨2, ![6, 256]⟩
abbrev S1536x384 : Shape := ⟨2, ![1536, 384]⟩
abbrev S1536 : Shape := ⟨1, ![1536]⟩
abbrev S6x256x239x128 : Shape := ⟨4, ![6, 256, 239, 128]⟩
abbrev S6x256x239x1 : Shape := ⟨4, ![6, 256, 239, 1]⟩
abbrev S6x256x1 : Shape := ⟨3, ![6, 256, 1]⟩
abbrev S1536x1 : Shape := ⟨2, ![1536, 1]⟩
abbrev S30592x384 : Shape := ⟨2, ![30592, 384]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S6x256x30592, .fp8e5m2⟩
  | .hbm, ⟨1, _⟩ => ⟨S6x256x239, .f32⟩
  | .hbm, ⟨2, _⟩ => ⟨S6x256x384, .fp8e4m3⟩
  | .hbm, ⟨3, _⟩ => ⟨S6x256, .f32⟩
  | .hbm, ⟨4, _⟩ => ⟨S1536x384, .fp8e5m2⟩
  | .hbm, ⟨5, _⟩ => ⟨S1536, .f32⟩
  | .hbm, ⟨6, _⟩ => ⟨S1536, .i32⟩
  | .hbm, ⟨7, _⟩ => ⟨S6x256x30592, .bf16⟩
  | .hbm, ⟨8, _⟩ => ⟨S6x256x384, .bf16⟩
  | .hbm, ⟨9, _⟩ => ⟨S1536x384, .f32⟩
  | .hbm, ⟨10, _⟩ => ⟨S30592x384, .f32⟩
  | .hbm, ⟨11, _⟩ => ⟨S_, .f32⟩
  | .hbm, ⟨12, _⟩ => ⟨S30592x384, .f32⟩
  | .hbm, ⟨13, _⟩ => ⟨S1536x1, .i32⟩
  | .hbm, ⟨14, _⟩ => ⟨S30592x384, .f32⟩
  | .hbm, ⟨15, _⟩ => ⟨S30592x384, .f32⟩
  | .local _ .vmem, ⟨0, _⟩ => ⟨S6x256x30592, .fp8e5m2⟩
  | .local _ .vmem, ⟨1, _⟩ => ⟨S6x256x239, .f32⟩
  | .local _ .vmem, ⟨2, _⟩ => ⟨S6x256x384, .fp8e4m3⟩
  | .local _ .vmem, ⟨3, _⟩ => ⟨S6x256, .f32⟩
  | .local _ .vmem, ⟨4, _⟩ => ⟨S1536x384, .fp8e5m2⟩
  | .local _ .vmem, ⟨5, _⟩ => ⟨S1536, .f32⟩
  | .local _ .vmem, ⟨6, _⟩ => ⟨S6x256x30592, .bf16⟩
  | .local _ .vmem, ⟨7, _⟩ => ⟨S6x256x384, .bf16⟩
  | .local _ .vmem, ⟨8, _⟩ => ⟨S1536x384, .f32⟩
  | _, _ => ⟨S6x256x30592, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x256x30592 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x239 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x384 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x30592 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Split.lean ====
/-
  The integer facts the loop over the embedding rows rests on. The ids are sorted and not negative; the loop keeps a
  counter that splits them at a bound. Nothing here speaks of the program.
-/
module

public import Idealize.ShloMosaic.Lib.Tactic

@[expose] public section

namespace Cert.Proof

open Idealize.ShloMosaic

/-- The ids are not negative and do not decrease. -/
def SortedIds (ids : Fin 1536 → BitVec 32) : Prop :=
  (∀ q, 0 ≤ (ids q).toInt) ∧ ∀ q r : Fin 1536, q ≤ r → (ids q).toInt ≤ (ids r).toInt

/-- `p` splits the ids at `T`: the ids below position `p` are those below `T`. -/
def Split (ids : Fin 1536 → BitVec 32) (T p : ℕ) : Prop :=
  p ≤ 1536 ∧ ∀ q : Fin 1536, q.val < p ↔ (ids q).toInt < (T : ℤ)

/-- Sorted ids split at every bound. -/
theorem exists_split {ids : Fin 1536 → BitVec 32} (h : SortedIds ids) (T : ℕ) : ∃ p, Split ids T p := by
  suffices H : ∀ n ≤ 1536, ∃ p ≤ n, ∀ q : Fin 1536, q.val < n → (q.val < p ↔ (ids q).toInt < (T : ℤ)) by
    obtain ⟨p, hp, hq⟩ := H 1536 le_rfl
    exact ⟨p, hp, fun q => hq q q.isLt⟩
  intro n
  induction n with
  | zero => intro _; exact ⟨0, le_rfl, fun q hq => absurd hq (Nat.not_lt_zero _)⟩
  | succ n ih =>
    intro hn
    obtain ⟨p, hp, hq⟩ := ih (by omega)
    by_cases hT : (ids ⟨n, by omega⟩).toInt < (T : ℤ)
    · refine ⟨n + 1, le_rfl, fun q hqn => ⟨fun _ => ?_, fun _ => hqn⟩⟩
      exact lt_of_le_of_lt (h.2 q ⟨n, by omega⟩ (Fin.mk_le_mk.mpr (by omega) : q ≤ ⟨n, _⟩)) hT
    · refine ⟨p, by omega, fun q hqn => ?_⟩
      rcases Nat.lt_succ_iff_lt_or_eq.mp hqn with hlt | heq
      · exact hq q hlt
      · have hq' : q = ⟨n, by omega⟩ := Fin.ext heq
        exact ⟨fun hh => by omega, fun hh => absurd (hq' ▸ hh) hT⟩

/-- At bound zero the splitting position is zero. -/
theorem split_zero {ids : Fin 1536 → BitVec 32} (h : SortedIds ids) : Split ids 0 0 :=
  ⟨Nat.zero_le _, fun q => ⟨fun hh => absurd hh (Nat.not_lt_zero _), fun hh => absurd (h.1 q) (by simpa using hh)⟩⟩

/-- A bound splits at one position only. -/
theorem split_unique {ids : Fin 1536 → BitVec 32} {T p p' : ℕ} (h : Split ids T p) (h' : Split ids T p') : p = p' := by
  by_contra hne
  rcases Nat.lt_or_gt_of_ne hne with hlt | hlt
  · have hb : p < 1536 := lt_of_lt_of_le hlt h'.1
    exact absurd ((h.2 ⟨p, hb⟩).mpr ((h'.2 ⟨p, hb⟩).mp hlt)) (Nat.lt_irrefl _)
  · have hb : p' < 1536 := lt_of_lt_of_le hlt h.1
    exact absurd ((h'.2 ⟨p', hb⟩).mpr ((h.2 ⟨p', hb⟩).mp hlt)) (Nat.lt_irrefl _)

/-- A larger bound splits no earlier. -/
theorem split_mono {ids : Fin 1536 → BitVec 32} {T T' p p' : ℕ} (h : Split ids T p) (h' : Split ids T' p') (hT : T ≤ T') :
    p ≤ p' := by
  by_contra hlt
  have hlt : p' < p := Nat.lt_of_not_le hlt
  have hb : p' < 1536 := lt_of_lt_of_le hlt h.1
  have h1 := (h.2 ⟨p', hb⟩).mp hlt
  exact absurd ((h'.2 ⟨p', hb⟩).mpr (lt_of_lt_of_le h1 (by exact_mod_cast hT))) (Nat.lt_irrefl _)

/-! ### The loop's words -/

theorem toInt_ofNat_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- The counter's bound test: it is below 1536. -/
theorem cmp_counter (p : ℕ) (h : p ≤ 1536) : Scalar.cmpi .slt (BitVec.ofNat 32 p) 1536#32 = BitVec.ofBool (decide (p < 1536)) := by
  unfold Scalar.cmpi IntOp.cmpi
  refine congrArg BitVec.ofBool ?_
  simp only
  rw [BitVec.slt, toInt_ofNat_small p (by omega), show (1536#32).toInt = ((1536 : ℕ) : ℤ) from rfl]
  exact decide_eq_decide.mpr Nat.cast_lt

/-- The id's bound test: it is below the tile's end. -/
theorem cmp_id (w : BitVec 32) (i : ℕ) (h : i < 60) :
    Scalar.cmpi .slt w (Scalar.addi (Scalar.muli (BitVec.ofNat 32 i) 512#32) 512#32)
      = BitVec.ofBool (decide (w.toInt < ((512 * (i + 1) : ℕ) : ℤ))) := by
  have e : (Scalar.addi (Scalar.muli (BitVec.ofNat 32 i) 512#32) 512#32) = BitVec.ofNat 32 (512 * (i + 1)) := by
    apply BitVec.eq_of_toNat_eq
    simp only [Scalar.addi, Scalar.muli, IntOp.addi, IntOp.muli, BitVec.toNat_add, BitVec.toNat_mul, BitVec.toNat_ofNat]
    omega
  rw [e]
  unfold Scalar.cmpi IntOp.cmpi
  refine congrArg BitVec.ofBool ?_
  simp only
  rw [BitVec.slt, toInt_ofNat_small _ (by omega)]

/-- The two tests together. -/
theorem test_eq (a b : Prop) [Decidable a] [Decidable b] :
    (Scalar.andi (BitVec.ofBool (decide a)) (BitVec.ofBool (decide b)) = 1#1) ↔ (a ∧ b) := by
  by_cases ha : a <;> by_cases hb : b <;> simp [ha, hb, Scalar.andi, IntOp.andi]

/-- The counter as an offset. -/
theorem counter_toNat (p : ℕ) (h : p ≤ 1536) : (Scalar.indexCast (BitVec.ofNat 32 p)).toNat = p := by
  show (BitVec.ofNat 32 p).toNat = p
  rw [BitVec.toNat_ofNat]; omega

/-- The clamped counter as an offset. -/
theorem clamp_toNat (p : ℕ) (h : p ≤ 1536) : (Scalar.indexCast (Scalar.minsi (BitVec.ofNat 32 p) 1535#32)).toNat = min p 1535 := by
  show (IntOp.minsi (BitVec.ofNat 32 p) 1535#32).toNat = _
  unfold IntOp.minsi
  rw [BitVec.slt, toInt_ofNat_small p (by omega), show (1535#32).toInt = ((1535 : ℕ) : ℤ) from rfl]
  split
  · rename_i hh
    have : p < 1535 := by simpa using hh
    rw [BitVec.toNat_ofNat]; omega
  · rename_i hh
    have : ¬ p < 1535 := by simpa using hh
    show 1535 = _
    omega

/-- The id's row of the tile as an offset. -/
theorem row_toNat (w : BitVec 32) (i : ℕ) (h : i < 60) (hlo : ((512 * i : ℕ) : ℤ) ≤ w.toInt) (hhi : w.toInt < ((512 * (i + 1) : ℕ) : ℤ)) :
    (Scalar.indexCast (Scalar.subi w (Scalar.muli (BitVec.ofNat 32 i) 512#32))).toNat = w.toNat - 512 * i
      ∧ 512 * i ≤ w.toNat ∧ w.toNat < 512 * (i + 1) := by
  have hn : w.toInt = (w.toNat : ℤ) := by
    rw [BitVec.toInt_eq_toNat_cond] at hlo hhi ⊢
    have := w.isLt
    split
    · rfl
    · rename_i hh; rw [if_neg hh] at hlo; exfalso; push_cast at *; omega
  rw [hn] at hlo hhi
  have h1 : 512 * i ≤ w.toNat := by exact_mod_cast hlo
  have h2 : w.toNat < 512 * (i + 1) := by exact_mod_cast hhi
  refine ⟨?_, h1, h2⟩
  show (w - BitVec.ofNat 32 i * 512#32).toNat = _
  rw [BitVec.toNat_sub, BitVec.toNat_mul, BitVec.toNat_ofNat]
  have : (512#32).toNat = 512 := rfl
  rw [this]
  omega

end Cert.Proof
-- ==== Proof.Pre.lean ====
/-
  The precondition read as an order: the ids' test holds at every position exactly when the ids are sorted and not negative.
-/
module

public import proofs.«01_k».proof.Proof.Gen.Pre_ids_sorted
public import proofs.«01_k».proof.Proof.Split
public import Idealize.ShloMosaic.Lib.Pointwise

@[expose] public section

namespace Cert.Proof

open Idealize.ShloMosaic Cert.Pre_ids_sorted

variable {F : FTy → Type} [FloatOps F]

/-- The signed comparison `≥` holds exactly when the integers are so ordered. -/
theorem sge_iff (a b : BitVec 32) : IntOp.cmpi .sge a b = 1#1 ↔ b.toInt ≤ a.toInt := by
  unfold IntOp.cmpi
  rw [← BitVec.sle_iff_toInt_le]
  cases b.sle a <;> simp

/-- Each id is at least the one before it, and the first is not negative: the ids are sorted. -/
theorem sortedIds_of_step (ids : Fin 1536 → BitVec 32) (h0 : 0 ≤ (ids 0).toInt)
    (hs : ∀ q (h : q + 1 < 1536), (ids ⟨q, by omega⟩).toInt ≤ (ids ⟨q + 1, h⟩).toInt) : SortedIds ids := by
  have mono : ∀ n q (h : q + n < 1536), (ids ⟨q, by omega⟩).toInt ≤ (ids ⟨q + n, h⟩).toInt := by
    intro n
    induction n with
    | zero => intro q h; exact le_refl _
    | succ n ih => intro q h; exact (ih q (by omega)).trans (hs (q + n) h)
  refine ⟨fun q => ?_, fun q r hqr => ?_⟩
  · have := mono q.val 0 (by omega)
    simp only [Nat.zero_add] at this
    exact h0.trans this
  · have := mono (r.val - q.val) q.val (by have := r.isLt; have : q.val ≤ r.val := hqr; omega)
    have e : q.val + (r.val - q.val) = r.val := by have : q.val ≤ r.val := hqr; omega
    simpa only [e] using this

/-- The precondition says the ids are sorted and not negative. -/
theorem sortedIds_of_pre (a0 : FVec F S6x256x30592 .fp8e5m2) (a1 : FVec F S6x256x239 .f32) (a2 : FVec F S6x256x384 .fp8e4m3)
    (a3 : FVec F S6x256 .f32) (a4 : FVec F S1536x384 .fp8e5m2) (a5 : FVec F S1536 .f32) (a6 : IVec S1536 32)
    (h : Cert.Pre_ids_sorted.fn a0 a1 a2 a3 a4 a5 a6 = fun _ => 1#1) : SortedIds (fun q => a6 (ix1 q)) := by
  have hat : ∀ j : S1536.Idx, _ := fun j => congrFun h j
  refine sortedIds_of_step _ ?_ fun q hq => ?_
  · have := hat (ix1 (0 : Fin 1536))
    pointwise [Cert.Pre_ids_sorted.fn] at this
    simpa using (sge_iff _ _).1 this
  · have := hat (ix1 (⟨q + 1, hq⟩ : Fin 1536))
    pointwise [Cert.Pre_ids_sorted.fn] at this
    rw [dif_neg (by omega)] at this
    simpa using (sge_iff _ _).1 this

end Cert.Proof
-- ==== Proof.P.Base.lean ====
/-
  What every module of the kernel's frame proof shares: the resource algebra, a buffer held whole, the ids as the loop
  reads them, and the list of row writes the loop makes.
-/
module

public import proofs.«01_k».proof.Kernel
public import proofs.«01_k».proof.Proof.Gen.Kernel
public import proofs.«01_k».proof.Proof.Gen.Kernel.Skeleton
public import proofs.«01_k».proof.Proof.Split
public import Idealize.ShloMosaic.Lib.Tactic

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The loop's variant: the trips to run. -/
abbrev 𝒱₀ : Variants := Variants.nat

theorem id_inb (q : Fin 1536) : ∀ a, (![q.val] : Fin 1 → Nat) a + S1.size a ≤ S1536.size a := by
  intro a; fin_cases a; exact q.isLt

/-- The id at position `q` of the table held at `ft`. -/
def idAt {c : Dev nD} (arg1 : Memref sig .tc .smem S1536 .i32) (ft : Bf (F := F) c arg1) (q : Fin 1536) : BitVec 32 :=
  arg1.view.readAt (Elt F) (Rect.unit (s := S1536) ![q.val] S1.size (id_inb q)).toLoadRect ft (Shape.Idx.first (numel1_S1.symm ▸ Nat.one_pos))

/-- The result tile after `k` trips from position `p`: each trip adds row `p` of the scaled embedding gradients to the row
    its id names; the tile is kept as its list of writes, the latest first. -/
def trips {c : Dev nD} (i : grid0.Coords) (arg1 : Memref sig .tc .smem S1536 .i32) (ft : Bf (F := F) c arg1)
    (arg8 : Memref sig .tc .vmem S512x384 .f32) (arg10 : Memref sig .tc .vmem S1536x384 .f32) (fe : Bf (F := F) c arg10) :
    (k p : ℕ) → List (View.Piece (Elt F) S512x384 .f32) → List (View.Piece (Elt F) S512x384 .f32)
  | 0, _, L => L
  | k + 1, p, L =>
    if hp : p < 1536 then
      if h3 : k0_chk3 i (idAt arg1 ft ⟨p, hp⟩) then
        if h2 : k0_chk2 (BitVec.ofNat 32 p) then
          trips i arg1 ft arg8 arg10 fe k (p + 1)
            (⟨Rect.unit (s := S512x384) (k0_off3 i (idAt arg1 ft ⟨p, hp⟩)) S1x384.size (k0_off3_inb i _ h3),
              k0_pay1 (arg8.view.readCov L (Rect.unit (s := S512x384) (k0_off3 i (idAt arg1 ft ⟨p, hp⟩)) S1x384.size (k0_off3_inb i _ h3)).toLoadRect)
                (arg10.view.readAt (Elt F) (Rect.unit (s := S1536x384) (k0_off4 (BitVec.ofNat 32 p)) S1x384.size (k0_off4_inb _ h2)).toLoadRect fe)⟩ :: L)
        else L
      else L
    else L

/-- Grid point `i`'s coordinate is below 60. -/
theorem coord_lt (i : grid0.Coords) : (i 0).val < 60 := (i 0).isLt

end Cert.Proof.P
-- ==== Proof.P.While.lean ====
/-
  The loop over the embedding rows. Entered at position `p` with `k` trips to run, it returns position `p + k` and leaves
  the result tile at `trips … k p` of what it was; the ids' table and the scaled embedding gradients are as they were.
-/
module

public import proofs.«01_k».proof.Proof.P.Base

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A position up to the last passes the loop's first side condition; -/
theorem chk1_of (p : ℕ) (h : p ≤ 1536) : k0_chk1 (BitVec.ofNat 32 p) := by
  intro a; fin_cases a
  show (Scalar.indexCast (Scalar.minsi (BitVec.ofNat 32 p) 1535#32)).toNat + 1 ≤ 1536
  rw [clamp_toNat p h]; omega
/-- a position of the table passes the second; -/
theorem chk2_of (p : ℕ) (h : p < 1536) : k0_chk2 (BitVec.ofNat 32 p) := by
  refine ⟨fun a => ?_, fun a => ?_⟩
  · fin_cases a
    show (Scalar.indexCast (BitVec.ofNat 32 p)).toNat + 1 ≤ 1536
    rw [counter_toNat p (by omega)]; omega
  · fin_cases a
    · show (Scalar.indexCast (BitVec.ofNat 32 p)).toNat + 1 ≤ 1536
      rw [counter_toNat p (by omega)]; omega
    · show 0 + 384 ≤ 384
      omega
/-- an id of the tile passes the third. -/
theorem chk3_of (i : grid0.Coords) (w : BitVec 32) (hlo : ((512 * (i 0).val : ℕ) : ℤ) ≤ w.toInt)
    (hhi : w.toInt < ((512 * ((i 0).val + 1) : ℕ) : ℤ)) : k0_chk3 i w := by
  intro a; fin_cases a
  · show (Scalar.indexCast (Scalar.subi w (Scalar.muli (BitVec.ofNat 32 (i 0).val) 512#32))).toNat + 1 ≤ 512
    obtain ⟨h1, h2, h3⟩ := row_toNat w _ (coord_lt i) hlo hhi
    rw [h1]; omega
  · show 0 + 384 ≤ 384
    omega

section
variable (c : Dev nD) (i : grid0.Coords) (arg1 : Memref sig .tc .smem S1536 .i32) (harg1 : arg1.IsWhole)
  (arg8 : Memref sig .tc .vmem S512x384 .f32) (harg8 : arg8.IsWhole) (arg10 : Memref sig .tc .vmem S1536x384 .f32) (harg10 : arg10.IsWhole)
  (qt : PosShare TreeShare) (ft : Bf (F := F) c arg1) (fe : Bf (F := F) c arg10)

/-- The id the loop's test reads, at the clamped position. -/
theorem read_clamped (p : ℕ) (h : p < 1536) (hc : k0_chk1 (BitVec.ofNat 32 p)) :
    arg1.view.readAt (Elt F) (Rect.unit (s := S1536) (k0_off1 (BitVec.ofNat 32 p)) S1.size (k0_off1_inb _ hc)).toLoadRect ft
      (Shape.Idx.first (numel1_S1.symm ▸ Nat.one_pos)) = idAt arg1 ft ⟨p, h⟩ := by
  have e : k0_off1 (BitVec.ofNat 32 p) = ![p] := by
    show ![(Scalar.indexCast (Scalar.minsi (BitVec.ofNat 32 p) 1535#32)).toNat] = _
    rw [clamp_toNat p (by omega), Nat.min_eq_left (by omega)]
  unfold idAt
  congr 1; simp only [e]
/-- The id the trip reads. -/
theorem read_id (p : ℕ) (h : p < 1536) (hc : k0_chk2 (BitVec.ofNat 32 p)) :
    arg1.view.readAt (Elt F) (Rect.unit (s := S1536) (k0_off2 (BitVec.ofNat 32 p)) S1.size (k0_off2_inb _ hc)).toLoadRect ft
      (Shape.Idx.first (numel1_S1.symm ▸ Nat.one_pos)) = idAt arg1 ft ⟨p, h⟩ := by
  have e : k0_off2 (BitVec.ofNat 32 p) = ![p] := by
    show ![(Scalar.indexCast (BitVec.ofNat 32 p)).toNat] = _
    rw [counter_toNat p (by omega)]
  unfold idAt
  congr 1; simp only [e]

/-- The buffers the loop reads and writes: the ids' table, the result tile at a list of writes, the scaled embedding
    gradients. -/
def held (L : List (View.Piece (Elt F) S512x384 .f32)) : sProp 𝕄 :=
  iprop((arg1.view.loc (c : Thread nD τ) ↦{qt} ft) ∗ pt c arg8 (arg8.view.writes (Elt F) arg8.view.junk L) ∗ pt c arg10 fe)

/-- The loop's specification with `k` trips to run from position `p`. -/
def spec (k p : ℕ) (L : List (View.Piece (Elt F) S512x384 .f32)) : sWPT 𝕄 (BitVec 32) := do
  sWPT.consume (held c arg1 arg8 arg10 qt ft fe L)
  sWPT.produce (held c arg1 arg8 arg10 qt ft fe (trips i arg1 ft arg8 arg10 fe k p L))
  pure (BitVec.ofNat 32 (p + k))

theorem spec_apply (k p : ℕ) (L : List (View.Piece (Elt F) S512x384 .f32)) (K : BitVec 32 → sProp 𝕄) :
    spec c i arg1 arg8 arg10 qt ft fe k p L K
      = iprop(held c arg1 arg8 arg10 qt ft fe L
          ∗ (held c arg1 arg8 arg10 qt ft fe (trips i arg1 ft arg8 arg10 fe k p L) -∗ K (BitVec.ofNat 32 (p + k)))) := rfl

set_option maxHeartbeats 1000000 in
/-- The loop meets its specification: from `p` the next `k` ids are the tile's and the one after them, if any, is not. -/
theorem spec_le (E : Set ℕ) : ∀ k p, p + k ≤ 1536 →
    (∀ q : Fin 1536, p ≤ q.val → q.val < p + k → ((512 * (i 0).val : ℕ) : ℤ) ≤ (idAt arg1 ft q).toInt
      ∧ (idAt arg1 ft q).toInt < ((512 * ((i 0).val + 1) : ℕ) : ℤ)) →
    (∀ q : Fin 1536, q.val = p + k → ¬(idAt arg1 ft q).toInt < ((512 * ((i 0).val + 1) : ℕ) : ℤ)) →
    ∀ L K, spec c i arg1 arg8 arg10 qt ft fe k p L K
      ⊢ wp frame (wpE (defs₀ (F := F)) 𝒱₀ (c : Thread nD τ) (some k)) E
          (defs₀ (F := F) .tc 1 ⟨i, arg1, harg1, arg8, harg8, arg10, harg10, BitVec.ofNat 32 p⟩) K := by
  intro k
  induction k with
  | zero =>
    intro p hp _ hend L K
    rw [spec_apply]
    show _ ⊢ wp frame (wpE (defs₀ (F := F)) 𝒱₀ (c : Thread nD τ) (some 0)) E
      (cc0_while1 i arg1 harg1 arg8 harg8 arg10 harg10 (BitVec.ofNat 32 p)) K
    simp only [cc0_while1_eq_skeleton]; unfold cc0_while1_skel
    simp only [smemLoad, smemLoadElt, Prog.lift, Prog.bind_op, Prog.bind_ret, Prog.pure_eq_ret]
    unfold held
    iintro ⟨⟨Ht, Ho, He⟩, Hk⟩
    iapply (wp_assume 𝒱₀ (c : Thread nD τ) (some 0) E (chk1_of p hp))
    iapply (wp_load 𝒱₀ (c : Thread nD τ) (some 0) E (m := arg1) (Finset.subset_univ _)) $$ Ht; iintro Ht
    have htest : ¬Scalar.andi (Scalar.cmpi .slt (BitVec.ofNat 32 p) 1536#32) (Scalar.cmpi .slt
        (arg1.view.readAt (Elt F) (Rect.unit (s := S1536) (k0_off1 (BitVec.ofNat 32 p)) S1.size (k0_off1_inb _ (chk1_of p hp))).toLoadRect ft
          (Shape.Idx.first (numel1_S1.symm ▸ Nat.one_pos)))
        (Scalar.addi (Scalar.muli (BitVec.ofNat 32 (i 0).val) 512#32) 512#32)) = 1#1 := by
      rw [cmp_counter p hp, cmp_id _ _ (coord_lt i), test_eq]
      rintro ⟨h1, h2⟩
      rw [read_clamped c arg1 ft p h1 (chk1_of p hp)] at h2
      exact hend ⟨p, h1⟩ rfl h2
    rw [if_neg htest, wp_ret]; imodintro
    iapply Hk
    unfold trips
    isplitl [Ht]; · iexact Ht
    isplitl [Ho]; · iexact Ho
    iexact He
  | succ k ih =>
    intro p hp hin hend L K
    have hp' : p < 1536 := by omega
    have hid := hin ⟨p, hp'⟩ le_rfl (by show p < p + (k + 1); omega)
    have h3 := chk3_of i _ hid.1 hid.2
    have h2 := chk2_of p hp'
    rw [spec_apply]
    show _ ⊢ wp frame (wpE (defs₀ (F := F)) 𝒱₀ (c : Thread nD τ) (some (k + 1))) E
      (cc0_while1 i arg1 harg1 arg8 harg8 arg10 harg10 (BitVec.ofNat 32 p)) K
    simp only [cc0_while1_eq_skeleton]; unfold cc0_while1_skel
    simp only [smemLoad, smemLoadElt, Prog.lift, Prog.bind_op, Prog.bind_ret, Prog.pure_eq_ret]
    unfold held
    iintro ⟨⟨Ht, Ho, He⟩, Hk⟩
    iapply (wp_assume 𝒱₀ (c : Thread nD τ) (some (k + 1)) E (chk1_of p (by omega)))
    iapply (wp_load 𝒱₀ (c : Thread nD τ) (some (k + 1)) E (m := arg1) (Finset.subset_univ _)) $$ Ht; iintro Ht
    have htest : Scalar.andi (Scalar.cmpi .slt (BitVec.ofNat 32 p) 1536#32) (Scalar.cmpi .slt
        (arg1.view.readAt (Elt F) (Rect.unit (s := S1536) (k0_off1 (BitVec.ofNat 32 p)) S1.size (k0_off1_inb _ (chk1_of p (by omega)))).toLoadRect ft
          (Shape.Idx.first (numel1_S1.symm ▸ Nat.one_pos)))
        (Scalar.addi (Scalar.muli (BitVec.ofNat 32 (i 0).val) 512#32) 512#32)) = 1#1 := by
      rw [cmp_counter p (by omega), cmp_id _ _ (coord_lt i), test_eq, read_clamped c arg1 ft p hp' (chk1_of p (by omega))]
      exact ⟨hp', hid.2⟩
    rw [if_pos htest]
    iapply (wp_assume 𝒱₀ (c : Thread nD τ) (some (k + 1)) E h2)
    iapply (wp_load 𝒱₀ (c : Thread nD τ) (some (k + 1)) E (m := arg1) (Finset.subset_univ _)) $$ Ht; iintro Ht
    rw [read_id c arg1 ft p hp' h2]
    iapply (wp_assume 𝒱₀ (c : Thread nD τ) (some (k + 1)) E h3)
    iapply (wp_load 𝒱₀ (c : Thread nD τ) (some (k + 1)) E (m := arg8) (Finset.subset_univ _)) $$ Ho; iintro Ho
    iapply (wp_load 𝒱₀ (c : Thread nD τ) (some (k + 1)) E (m := arg10) (Finset.subset_univ _)) $$ He; iintro He
    iapply (wp_load 𝒱₀ (c : Thread nD τ) (some (k + 1)) E (m := arg8) (Finset.subset_univ _)) $$ Ho; iintro Ho
    iapply (wp_store 𝒱₀ (c : Thread nD τ) (some (k + 1)) E (m := arg8)
      (r := Rect.unit (s := S512x384) (k0_off3 i (idAt arg1 ft ⟨p, hp'⟩)) S1x384.size (k0_off3_inb i _ h3)) (Mk := Finset.univ) (Finset.subset_univ _)) $$ Ho; iintro Ho
    have hadd : Scalar.addi (BitVec.ofNat 32 p) 1#32 = BitVec.ofNat 32 (p + 1) := by
      show BitVec.ofNat 32 p + 1#32 = _
      rw [BitVec.ofNat_add]
    rw [hadd]
    obtain ⟨L', hL'⟩ : ∃ L' : List (View.Piece (Elt F) S512x384 .f32), L' =
            (⟨Rect.unit (s := S512x384) (k0_off3 i (idAt arg1 ft ⟨p, hp'⟩)) S1x384.size (k0_off3_inb i _ h3),
              k0_pay1 (arg8.view.readCov L (Rect.unit (s := S512x384) (k0_off3 i (idAt arg1 ft ⟨p, hp'⟩)) S1x384.size (k0_off3_inb i _ h3)).toLoadRect)
                (arg10.view.readAt (Elt F) (Rect.unit (s := S1536x384) (k0_off4 (BitVec.ofNat 32 p)) S1x384.size (k0_off4_inb _ h2)).toLoadRect fe)⟩ :: L) := ⟨_, rfl⟩
    have htr : trips i arg1 ft arg8 arg10 fe (k + 1) p L = trips i arg1 ft arg8 arg10 fe k (p + 1) L' := by
      rw [hL', trips, dif_pos hp', dif_pos h3, dif_pos h2]
    rw [htr]
    have hT := ih (p + 1) (by omega) (fun q h1 h2 => hin q (by omega) (by omega)) (fun q h1 => hend q (by omega)) L'
    iapply (wp_call_spec 𝒱₀ (c : Thread nD τ) (some (k + 1)) E (spec c i arg1 arg8 arg10 qt ft fe k (p + 1) L') k
      (fun u hu => by cases hu; exact Nat.lt_succ_self k) hT)
    rw [spec_apply]; unfold held
    isplitl [Ht Ho He]
    · isplitl [Ht]; · iexact Ht
      isplitl [Ho]
      · rw [hL', View.writes_cons]; iexact Ho
      iexact He
    iintro ⟨Ht, Ho, He⟩
    rw [wp_ret]; imodintro
    rw [show p + 1 + k = p + (k + 1) from by omega]
    iapply Hk
    isplitl [Ht]; · iexact Ht
    isplitl [Ho]; · iexact Ho
    iexact He

end

end Cert.Proof.P
-- ==== Proof.P.Run.lean ====
/-
  The kernel body run once, at symbolic operands. `bodyRun` is what the body stores over the result tile before the loop,
  with the proof that from the staged blocks, the scratch buffers and the ids' table the body runs to its return: the
  staged blocks and the table are as they were, the result tile has the loop's rows added, the scaled embedding
  gradients were stored at the first point and kept at the others, and the counter is at the next tile's position.
-/
module

public import proofs.«01_k».proof.Proof.P.While

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The whole result tile. -/
abbrev tileRect : Rect S512x384 := Rect.unit (s := S512x384) ![0, 0] S512x384.size inb_S512x384_S512x384_0_0

/-- The counter held at `fp`. -/
def word {c : Dev nD} (arg11 : Memref sig .tc .smem S1 .i32) (fp : Bf (F := F) c arg11) : BitVec 32 :=
  arg11.view.readAt (Elt F) (Rect.unit (s := S1) ![0] S1.size inb_S1_S1_0).toLoadRect fp (Shape.Idx.first (numel1_S1.symm ▸ Nat.one_pos))

/-- The scaled embedding gradients of the staged codes and scales. -/
def scaled {c : Dev nD} (arg6 : Memref sig .tc .vmem S1536x384 .fp8e5m2) (arg7 : Memref sig .tc .vmem S1536x1 .f32)
    (f6 : Bf (F := F) c arg6) (f7 : Bf (F := F) c arg7) : FVec F S1536x384 .f32 :=
  k0_pay2 (arg6.view.readAt (Elt F) (Rect.unit (s := S1536x384) ![0, 0] S1536x384.size inb_S1536x384_S1536x384_0_0).toLoadRect f6)
    (arg7.view.readAt (Elt F) (Rect.unit (s := S1536x1) ![0, 0] S1536x1.size inb_S1536x1_S1536x1_0_0).toLoadRect f7)

/-- The counter after a store of `w`. -/
theorem word_store (c : Dev nD) (arg11 : Memref sig .tc .smem S1 .i32) (fp : Bf (F := F) c arg11) (w : BitVec 32) :
    word (c := c) arg11 (arg11.view.writes (Elt F) fp [⟨Rect.unit (s := S1) ![0] S1.size inb_S1_S1_0, fun _ => w⟩]) = w := by
  unfold word
  rw [View.readAt_apply]
  exact View.read_writes_cons_emb _ _ _ _ _ _

/-- A buffer written whole reads as what was written. -/
theorem read_write_whole {c : Dev nD} {sp : Space} {S : Shape} {e : EltTy} (M : Memref sig .tc sp S e) {off : Fin S.rank → Nat}
    (h : off = fun _ => 0) (inb : ∀ a, off a + S.size a ≤ S.size a) (f : Bf (F := F) c M) (w : S.Idx → Elt F e) :
    M.view.read (Elt F) (M.view.writes (Elt F) f [⟨Rect.unit off S.size inb, w⟩]) = w := by
  subst h; funext y
  have e := View.read_writes_cons_emb (Val := Elt F) M.view f (Rect.whole S) w [] y
  rw [Rect.emb_whole_apply] at e
  exact e

/-- The first conditional's test: the point's coordinate is zero. -/
theorem first_iff (i : grid0.Coords) :
    Scalar.cmpi .ne (Scalar.extui (Scalar.cmpi .eq (BitVec.ofNat 32 (i 0).val) 0#32) : BitVec 32) 0#32 = 1#1 ↔ (i 0).val = 0 := by
  have : ∀ n : Fin 60, Scalar.cmpi .ne (Scalar.extui (Scalar.cmpi .eq (BitVec.ofNat 32 n.val) 0#32) : BitVec 32) 0#32 = 1#1 ↔ n.val = 0 := by
    decide
  exact this (i 0)

noncomputable def bodyRun (c : Dev nD) (i : grid0.Coords) (arg1 : Memref sig .tc .smem S1536 .i32) (harg1 : arg1.IsWhole)
    (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole) (arg9 : Memref sig .tc .vmem S1536x512 .bf16) (harg9 : arg9.IsWhole)
    (arg10 : Memref sig .tc .vmem S1536x384 .f32) (harg10 : arg10.IsWhole) (arg11 : Memref sig .tc .smem S1 .i32) (harg11 : arg11.IsWhole)
    (f2 : Bf (F := F) c arg2) (f3 : Bf (F := F) c arg3) (f4 : Bf (F := F) c arg4) (f5 : Bf (F := F) c arg5) :
    { W : Vec F S512x384 .f32 //
      ∀ (f6 : Bf (F := F) c arg6) (f7 : Bf (F := F) c arg7) (f8 : Bf (F := F) c arg8) (f9 : Bf (F := F) c arg9)
        (f10 : Bf (F := F) c arg10) (f11 : Bf (F := F) c arg11) (qt : PosShare TreeShare) (ft : Bf (F := F) c arg1) (p p' : ℕ)
        (_ : SortedIds (idAt arg1 ft)) (_ : Split (idAt arg1 ft) (512 * (i 0).val) p)
        (_ : Split (idAt arg1 ft) (512 * ((i 0).val + 1)) p') (_ : (i 0).val ≠ 0 → word arg11 f11 = BitVec.ofNat 32 p)
        (E : Set ℕ) (Q : PUnit → sProp 𝕄),
        iprop((arg1.view.loc (c : Thread nD τ) ↦{qt} ft) ∗ pt c arg2 f2 ∗ pt c arg3 f3 ∗ pt c arg4 f4 ∗ pt c arg5 f5 ∗ pt c arg6 f6 ∗ pt c arg7 f7
            ∗ pt c arg8 f8 ∗ pt c arg9 f9 ∗ pt c arg10 f10 ∗ pt c arg11 f11
            ∗ (∀ (fe : Bf (F := F) c arg10) (fp : Bf (F := F) c arg11),
                ⌜((i 0).val = 0 → arg10.view.read (Elt F) fe = scaled arg6 arg7 f6 f7) ∧ ((i 0).val ≠ 0 → fe = f10)
                  ∧ word arg11 fp = BitVec.ofNat 32 p'⌝ -∗
                iprop((arg1.view.loc (c : Thread nD τ) ↦{qt} ft) ∗ pt c arg2 f2 ∗ pt c arg3 f3 ∗ pt c arg4 f4 ∗ pt c arg5 f5 ∗ pt c arg6 f6 ∗ pt c arg7 f7
                  ∗ pt c arg8 (arg8.view.writes (Elt F) arg8.view.junk (trips i arg1 ft arg8 arg10 fe (p' - p) p [⟨tileRect, W⟩]))
                  ∗ (∃ f, pt c arg9 f) ∗ pt c arg10 fe ∗ pt c arg11 fp) -∗ Q ⟨⟩))
          ⊢ wp frame (wpE (defs₀ (F := F)) 𝒱₀ c none) E
              (cc0_tied_dw i arg1 harg1 arg2 harg2 arg3 harg3 arg4 harg4 arg5 harg5 arg6 harg6 arg7 harg7 arg8 harg8 arg9 harg9 arg10 harg10 arg11 harg11) Q } := by
  refine ⟨?_, fun f6 f7 f8 f9 f10 f11 qt ft p p' hs hp hp' hw E Q => ?run⟩
  case run =>
    iintro ⟨H1, H2, H3, H4, H5, H6, H7, H8, H9, H10, H11, Hk⟩
    sl_exec_parts!
    have hpp : p ≤ p' := split_mono hp hp' (Nat.mul_le_mul_left 512 (Nat.le_succ _))
    have hword : bodyRun.sl.r_164 c i arg11 f11 = BitVec.ofNat 32 p := by
      by_cases hz : (i 0).val = 0
      · have hv : bodyRun.sl.v2 i = 1#1 := (first_iff i).mpr hz
        have hp0 : p = 0 := split_unique hp (by rw [hz]; exact split_zero hs)
        have := word_store c arg11 f11 0#32
        unfold bodyRun.sl.r_164 bodyRun.sl.f
        rw [dif_pos hv, hp0]
        exact this
      · have hv : ¬bodyRun.sl.v2 i = 1#1 := fun h => hz ((first_iff i).mp h)
        have := hw hz
        unfold bodyRun.sl.r_164 bodyRun.sl.f
        rw [dif_neg hv]
        exact this
    rw [hword]
    obtain ⟨fe, hfe⟩ : ∃ fe : Bf (F := F) c arg10, fe = (if hc : bodyRun.sl.v2 i = 1#1 then
        arg10.view.writes (Elt F) f10 [⟨Rect.unit (s := S1536x384) ![0, 0] S1536x384.size inb_S1536x384_S1536x384_0_0, scaled arg6 arg7 f6 f7⟩]
      else f10) := ⟨_, rfl⟩
    have hfe0 : (i 0).val = 0 → arg10.view.read (Elt F) fe = scaled arg6 arg7 f6 f7 := by
      intro hz
      have hv : bodyRun.sl.v2 i = 1#1 := (first_iff i).mpr hz
      rw [hfe, dif_pos hv]
      exact read_write_whole arg10 (funext fun a => by fin_cases a <;> rfl) _ f10 _
    have hfe1 : (i 0).val ≠ 0 → fe = f10 := by
      intro hz
      have hv : ¬bodyRun.sl.v2 i = 1#1 := fun h => hz ((first_iff i).mp h)
      rw [hfe, dif_neg hv]
    have hT := spec_le c i arg1 harg1 arg8 harg8 arg10 harg10 qt ft fe E (p' - p) p (by have := hp'.1; omega)
      (fun q h1 h2 => ⟨not_lt.mp (fun h => by have := (hp.2 q).mpr h; omega), (hp'.2 q).mp (by omega)⟩)
      (fun q h1 h => by have := (hp'.2 q).mpr h; omega)
      [⟨tileRect, bodyRun.sl.r_163 c arg2 arg3 arg4 arg5 arg9 f2 f3 f4 f5⟩]
    iapply (wp_call_spec 𝒱₀ (c : Thread nD τ) none E _ (p' - p) (fun u hu => nomatch hu) hT)
    rw [spec_apply]; unfold held
    isplitl [H1 H8 H10]
    · isplitl [H1]; · iexact H1
      isplitl [H8]; · iexact H8
      rw [hfe]; iexact H10
    iintro ⟨H1, H8, H10⟩
    simp only [smemLoad, smemLoadElt, Prog.lift, Prog.bind_op, Prog.bind_ret, Prog.pure_eq_ret]
    iapply (wp_load 𝒱₀ (c : Thread nD τ) none E (m := arg11) (Finset.subset_univ _)) $$ H11; iintro H11
    iapply (wp_store 𝒱₀ (c : Thread nD τ) none E (m := arg11)
      (r := Rect.unit (s := S1) ![0] S1.size inb_S1_S1_0) (Mk := Finset.univ) (Finset.subset_univ _)) $$ H11; iintro H11
    rw [wp_ret]; imodintro
    have hadd : p + (p' - p) = p' := by omega
    rw [hadd]
    iapply Hk $$ %fe %_ %⟨hfe0, hfe1, word_store c arg11 _ _⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexact H11

end Cert.Proof.P
-- ==== Proof.P.Data.lean ====
/-
  The launch's proof data. `V` is what the unscoped buffers hold when the region is entered, `tab` the prefetched ids'
  table, `dats` the data: the windows' arrays at `V`; each input's staging buffer kept at its block, the result's left at
  its block of the array `G`; and, between the points, the scaled embedding gradients kept in scratch and the counter at
  the position the tile's bound splits the sorted ids at.
-/
module

public import proofs.«01_k».proof.Proof.P.Run
public import proofs.«01_k».proof.Proof.Gen.Kernel.Launch
public import Idealize.ShloMosaic.Lib.Pipeline.Frame
public import Idealize.ShloMosaic.Lib.Pipeline.FrameBody
public import Idealize.ShloMosaic.Lib.Pipeline.Value

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)

/-- What core `c`'s buffers hold after the host operations. -/
abbrev V (c : Dev nD) (b : Ref sig .tc) : Buf (Elt F) ((c : Thread nD τ).loc b) :=
  StableHlo.after (List.flatten [hostOps0, hostOps0_1, hostOps0_2]) (fun b => m (c, b)) (Proc.devRef .tc b)

/-- The prefetched table's contents. -/
def tab : (p : Fin 1) → (pcfgs (F := F) p).Adm := fun _ => ⟨fun k => V m 0 (pre0.ref k), trivial⟩

/-- The pipeline at that table. -/
abbrev C : Cfg sig (Λ₀ F) := Pipeline.pin (pcfgs (F := F)) (tab m) 0

/-- The ids as the body reads them. -/
abbrev ids (c : Dev nD) : Fin 1536 → BitVec 32 := idAt (c := c) (Memref.whole main_arg6) (V m c main_arg6)

/-- The arrays' contents as the body leaves the staging buffers: the entry contents, `G` for the result. -/
def left (G : (c : Dev nD) → Buf (Elt F) ((c : Thread nD τ).loc main_v12)) (c : Dev nD) (b : Ref sig .tc) : Buf (Elt F) ((c : Thread nD τ).loc b) :=
  Function.update (V m c) main_v12 (G c) b

/-- A window's staging buffer at its block of the array held at `X`, past the array's end whatever. -/
def stg (c : Dev nD) (X : (w : Fin (C m).W) → Buf (Elt F) (((C m).win w).arr.view.loc (c : Thread nD τ))) (w : Fin (C m).W) (t : Fin (C m).N) :
    ((C m).win w).block.Idx → Elt F ((C m).win w).elt :=
  ((C m).win w).fill ((C m).grid.coords t) (fun _ => Classical.arbitrary _) ((((C m).win w).blk t).view.read (Elt F) (X w))

/-- The first point. -/
def t₀ : Fin (C m).N := ⟨0, by show 0 < grid0.N; rw [N_0]; decide⟩

/-- The scaled embedding gradients. -/
def emb (c : Dev nD) : FVec F S1536x384 .f32 :=
  k0_pay2 (stg m c (fun w => V m c (Pipeline.arrRef (C m).spec w)) (4 : Fin 7) (t₀ m)) (stg m c (fun w => V m c (Pipeline.arrRef (C m).spec w)) (5 : Fin 7) (t₀ m))

/-- What holds between the points. -/
def inv (c : Dev nD) (n : ℕ) : sProp 𝕄 :=
  iprop((∃ f, pt c (Memref.whole cc0_scratch0) f)
    ∗ (∃ f : Bf (F := F) c (Memref.whole cc0_scratch1), ⌜n ≠ 0 → (Memref.whole cc0_scratch1 : Memref sig .tc _ _ _).view.read (Elt F) f = emb m c⌝ ∗ pt c (Memref.whole cc0_scratch1) f)
    ∗ (∃ f : Bf (F := F) c (Memref.whole cc0_scratch2), ⌜n ≠ 0 → ∀ p, Split (ids m c) (512 * n) p → word (Memref.whole cc0_scratch2) f = BitVec.ofNat 32 p⌝ ∗ pt c (Memref.whole cc0_scratch2) f)
    ∗ (∃ r, prngReg c r)
    ∗ ((Memref.whole main_arg6).view.loc (c : Thread nD τ) ↦{fullShare.right} V m c main_arg6))

/-- The proof data. -/
def dats (G : (c : Dev nD) → Buf (Elt F) ((c : Thread nD τ).loc main_v12)) (p : Fin 1) (c : Dev nD) :
    Dat τ (Elt F) Unit ℕ (UR nD τ) ℕ (Pipeline.pin (pcfgs (F := F)) (tab m) p) c where
  A w := V m c (Pipeline.arrRef (C m).spec w)
  after w t := stg m c (fun w => left m G c (Pipeline.arrRef (C m).spec w)) w t
  Φ t := inv m c t.val
  q _ := fullShare
  owed _ := 0

variable (G : (c : Dev nD) → Buf (Elt F) ((c : Thread nD τ).loc main_v12))

/-- An input's staging buffer is found and left at its block of the entry contents. -/
theorem before_in (c : Dev nD) (w : Fin (C m).W) (hw : ((C m).win w).isOut = false) (hne : Pipeline.arrRef (C m).spec w ≠ main_v12)
    (hlive : ∀ i, (C m).idle w i = false) (hclip : ∀ t t' : Fin (C m).N, ((C m).win w).index t = ((C m).win w).index t' →
      ((C m).win w).clip ((C m).grid.coords t) = ((C m).win w).clip ((C m).grid.coords t')) (t : Fin (C m).N)
    (d : ((C m).win w).block.Idx → Elt F ((C m).win w).elt) :
    (dats m G 0 c).before w t d = ((C m).win w).fill ((C m).grid.coords t) d ((((C m).win w).blk t).view.read (Elt F) (V m c (Pipeline.arrRef (C m).spec w))) := by
  refine (dats m G 0 c).before_in_eq_fetched w hw hlive hclip (fun t => ?_) t d
  show ((C m).win w).cut ((C m).grid.coords t) (((C m).win w).fill ((C m).grid.coords t) (fun _ => Classical.arbitrary _)
    ((((C m).win w).blk t).view.read (Elt F) (left m G c (Pipeline.arrRef (C m).spec w)))) =
      (((C m).win w).blk t).view.read (Elt F) (V m c (Pipeline.arrRef (C m).spec w))
  rw [Window.cut_fill]
  unfold left
  rw [Function.update_of_ne hne]

end Cert.Proof.P
-- ==== Proof.P.Obl.lean ====
/-
  The body's obligation at a grid point. `point` runs the body on the point's staging buffers: the inputs' are found and
  left as they were, the invariant moves on, and of the result's contents it says what `Out` does, whenever `Out` holds of
  what the body leaves there.
-/
module

public import proofs.«01_k».proof.Proof.P.Data

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)

/-- A whole buffer owned at the contents it reads as. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- A grid point's coordinate is its position. -/
theorem coords_val (t : Fin grid0.N) : (grid0.coords t 0).val = t.val := by
  have h : ∀ t : Fin 60, (grid0.coords (t.cast N_0.symm) 0).val = t.val := by decide
  exact h (t.cast N_0)

/-- The scaled gradients by what the buffers read as. -/
theorem scaled_eq {c : Dev nD} (arg6 : Memref sig .tc .vmem S1536x384 .fp8e5m2) (arg7 : Memref sig .tc .vmem S1536x1 .f32)
    (f6 : Bf (F := F) c arg6) (f7 : Bf (F := F) c arg7) :
    scaled arg6 arg7 f6 f7 = k0_pay2 (arg6.view.read (Elt F) f6) (arg7.view.read (Elt F) f7) := by
  have hz : (![0, 0] : Fin 2 → Nat) = fun _ => 0 := funext fun a => by fin_cases a <;> rfl
  unfold scaled
  congr 1
  · exact View.ld_unit_zero hz _ _
  · exact View.ld_unit_zero hz _ _

/-- What `Out` must hold of: the result's buffer as the body leaves it at point `t`. -/
def Leaves (c : Dev nD) (t : Fin grid0.N) (X0 : S1536x512.Idx → Elt F .fp8e5m2) (X1 : S1x48x128.Idx → Elt F .bf16) (X2 : S384x1536.Idx → Elt F .fp8e4m3)
    (X3 : S1x1536.Idx → Elt F .bf16) (Out : (S512x384.Idx → Elt F .f32) → Prop) : Prop :=
  ∀ (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole)
    (f2 : Bf (F := F) c arg2) (f3 : Bf (F := F) c arg3) (f4 : Bf (F := F) c arg4) (f5 : Bf (F := F) c arg5)
    (fe : Bf (F := F) c (Memref.whole cc0_scratch1)) (p p' : ℕ),
    arg2.view.read (Elt F) f2 = X0 → arg3.view.read (Elt F) f3 = X1 → arg4.view.read (Elt F) f4 = X2 → arg5.view.read (Elt F) f5 = X3 →
    (Memref.whole cc0_scratch1 : Memref sig .tc _ _ _).view.read (Elt F) fe = emb m c →
    Split (ids m c) (512 * t.val) p → Split (ids m c) (512 * (t.val + 1)) p' →
    Out (arg8.view.read (Elt F) (arg8.view.writes (Elt F) arg8.view.junk
      (trips (grid0.coords t) (Memref.whole main_arg6) (V m c main_arg6) arg8 (Memref.whole cc0_scratch1) fe (p' - p) p
        [⟨tileRect, (bodyRun c (grid0.coords t) (Memref.whole main_arg6) (Memref.isWhole_whole _) arg2 harg2 arg3 harg3 arg4 harg4 arg5 harg5
          arg6 harg6 arg7 harg7 arg8 harg8 (Memref.whole cc0_scratch0) (Memref.isWhole_whole _) (Memref.whole cc0_scratch1) (Memref.isWhole_whole _)
          (Memref.whole cc0_scratch2) (Memref.isWhole_whole _) f2 f3 f4 f5).val⟩])))

theorem point (c : Dev nD) (t : Fin grid0.N) (hs : SortedIds (ids m c))
    (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole)
    (X0 : S1536x512.Idx → Elt F .fp8e5m2) (X1 : S1x48x128.Idx → Elt F .bf16) (X2 : S384x1536.Idx → Elt F .fp8e4m3)
    (X3 : S1x1536.Idx → Elt F .bf16) (X4 : S1536x384.Idx → Elt F .fp8e5m2) (X5 : S1536x1.Idx → Elt F .f32) (X6 : S512x384.Idx → Elt F .f32)
    (hemb : k0_pay2 X4 X5 = emb m c) (Out : (S512x384.Idx → Elt F .f32) → Prop) (hOut : Leaves m c t X0 X1 X2 X3 Out) (E : Set ℕ) (Q : PUnit → sProp 𝕄) :
    iprop(inv m c t.val ∗ owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5
        ∗ owns (c : Thread nD τ) arg8 fullShare X6
        ∗ (∀ X, ⌜Out X⌝ -∗ iprop(inv m c (t.val + 1) ∗ owns (c : Thread nD τ) arg2 fullShare X0 ∗ owns (c : Thread nD τ) arg3 fullShare X1
          ∗ owns (c : Thread nD τ) arg4 fullShare X2 ∗ owns (c : Thread nD τ) arg5 fullShare X3 ∗ owns (c : Thread nD τ) arg6 fullShare X4
          ∗ owns (c : Thread nD τ) arg7 fullShare X5 ∗ owns (c : Thread nD τ) arg8 fullShare X) -∗ Q ⟨⟩))
      ⊢ wp frame (wpE (defs₀ (F := F)) 𝒱₀ c none) E
          (cc0_tied_dw (grid0.coords t) (Memref.whole main_arg6) (Memref.isWhole_whole _) arg2 harg2 arg3 harg3 arg4 harg4 arg5 harg5 arg6 harg6 arg7 harg7
            arg8 harg8 (Memref.whole cc0_scratch0) (Memref.isWhole_whole _) (Memref.whole cc0_scratch1) (Memref.isWhole_whole _)
            (Memref.whole cc0_scratch2) (Memref.isWhole_whole _)) Q := by
  obtain ⟨p, hp⟩ := exists_split hs (512 * t.val)
  obtain ⟨p', hp'⟩ := exists_split hs (512 * (t.val + 1))
  rw [owns_pt c arg2 harg2, owns_pt c arg3 harg3, owns_pt c arg4 harg4, owns_pt c arg5 harg5, owns_pt c arg6 harg6, owns_pt c arg7 harg7,
    owns_pt c arg8 harg8]
  unfold inv
  iintro ⟨⟨⟨%f9, H9⟩, ⟨%f10, %hf10, H10⟩, ⟨%f11, %hf11, H11⟩, Hr, H1⟩, ⟨%f2, %h2, H2⟩, ⟨%f3, %h3, H3⟩, ⟨%f4, %h4, H4⟩, ⟨%f5, %h5, H5⟩,
    ⟨%f6, %h6, H6⟩, ⟨%f7, %h7, H7⟩, ⟨%f8, %h8, H8⟩, Hk⟩
  have hct := coords_val t
  iapply ((bodyRun c (grid0.coords t) (Memref.whole main_arg6) (Memref.isWhole_whole _) arg2 harg2 arg3 harg3 arg4 harg4 arg5 harg5
    arg6 harg6 arg7 harg7 arg8 harg8 (Memref.whole cc0_scratch0) (Memref.isWhole_whole _) (Memref.whole cc0_scratch1) (Memref.isWhole_whole _)
    (Memref.whole cc0_scratch2) (Memref.isWhole_whole _) f2 f3 f4 f5).property f6 f7 f8 f9 f10 f11 fullShare.right (V m c main_arg6) p p' hs
    (by rw [hct]; exact hp) (by rw [hct]; exact hp') (fun h => hf11 (by rw [← hct]; exact h) p hp) E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro %fe %fp %hfacts ⟨H1, H2, H3, H4, H5, H6, H7, H8, ⟨%f9', H9⟩, H10, H11⟩
  obtain ⟨hz, hn, hw⟩ := hfacts
  have hfe : (Memref.whole cc0_scratch1 : Memref sig .tc _ _ _).view.read (Elt F) fe = emb m c := by
    by_cases h : (grid0.coords t 0).val = 0
    · rw [hz h, scaled_eq, h6, h7, hemb]
    · rw [hn h]; exact hf10 (by rw [← hct]; exact h)
  iapply Hk $$ %_ %(hOut arg2 harg2 arg3 harg3 arg4 harg4 arg5 harg5 arg6 harg6 arg7 harg7 arg8 harg8 f2 f3 f4 f5 fe p p' h2 h3 h4 h5 hfe hp hp')
  isplitl [H9 H10 H11 Hr H1]
  · isplitl [H9]; · iexists f9'; iexact H9
    isplitl [H10]
    · iexists fe; isplitr; · ipureintro; exact fun _ => hfe
      iexact H10
    isplitl [H11]
    · iexists fp; isplitr
      · ipureintro; intro _ q hq
        rw [hw, split_unique hq hp']
      iexact H11
    isplitl [Hr]; · iexact Hr
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  rw [owns_pt c arg8 harg8]
  iexists _; isplitr; swap; · iexact H8
  ipureintro; rfl

/-! ## The windows at a point -/

variable (G : (c : Dev nD) → Buf (Elt F) ((c : Thread nD τ).loc main_v12))

/-- What the body finds in input `w`'s buffer holding `d` before the fetch. -/
abbrev found (c : Dev nD) (w : Fin (C m).W) (t : Fin (C m).N) (d : ((C m).win w).block.Idx → Elt F ((C m).win w).elt) :
    ((C m).win w).block.Idx → Elt F ((C m).win w).elt :=
  ((C m).win w).fill ((C m).grid.coords t) d ((((C m).win w).blk t).view.read (Elt F) (V m c (Pipeline.arrRef (C m).spec w)))

/-- The inputs' arrays are not the result's. -/
theorem arr_ne : ∀ w : Fin 7, w ≠ 6 → Pipeline.arrRef spec0 w ≠ main_v12 := by decide

theorem before_0 (c : Dev nD) (t : Fin (C m).N) (d) : (dats m G 0 c).before (0 : Fin 7) t d = found m c (0 : Fin 7) t d :=
  before_in m G c (0 : Fin 7) rfl (arr_ne 0 (by decide)) (fun _ => rfl)
    (fun t t' h => by
      show clip0_0 (grid0.coords t) = clip0_0 (grid0.coords t')
      unfold clip0_0
      exact funext fun a => congrArg (fun ix : Fin 2 → Nat => Pipeline.Clip.of (ix a) (S1536x512.size a) (S1536x30592.size a)) h) t d
theorem before_1 (c : Dev nD) (t : Fin (C m).N) (d) : (dats m G 0 c).before (1 : Fin 7) t d = found m c (1 : Fin 7) t d :=
  before_in m G c (1 : Fin 7) rfl (arr_ne 1 (by decide)) (fun _ => rfl) (fun _ _ _ => rfl) t d
theorem before_2 (c : Dev nD) (t : Fin (C m).N) (d) : (dats m G 0 c).before (2 : Fin 7) t d = found m c (2 : Fin 7) t d :=
  before_in m G c (2 : Fin 7) rfl (arr_ne 2 (by decide)) (fun _ => rfl) (fun _ _ _ => rfl) t d
theorem before_3 (c : Dev nD) (t : Fin (C m).N) (d) : (dats m G 0 c).before (3 : Fin 7) t d = found m c (3 : Fin 7) t d :=
  before_in m G c (3 : Fin 7) rfl (arr_ne 3 (by decide)) (fun _ => rfl) (fun _ _ _ => rfl) t d
theorem before_4 (c : Dev nD) (t : Fin (C m).N) (d) : (dats m G 0 c).before (4 : Fin 7) t d = found m c (4 : Fin 7) t d :=
  before_in m G c (4 : Fin 7) rfl (arr_ne 4 (by decide)) (fun _ => rfl) (fun _ _ _ => rfl) t d
theorem before_5 (c : Dev nD) (t : Fin (C m).N) (d) : (dats m G 0 c).before (5 : Fin 7) t d = found m c (5 : Fin 7) t d :=
  before_in m G c (5 : Fin 7) rfl (arr_ne 5 (by decide)) (fun _ => rfl) (fun _ _ _ => rfl) t d

/-- What the data leaves in an uncut input's buffer is what the body found there. -/
theorem after_of (c : Dev nD) (w : Fin (C m).W) (hne : Pipeline.arrRef (C m).spec w ≠ main_v12)
    (hclip : ∀ i a, ((C m).win w).clip i a = none) (t : Fin (C m).N) (d : ((C m).win w).block.Idx → Elt F ((C m).win w).elt) :
    (dats m G 0 c).after w t = found m c w t d := by
  show stg m c (fun w => left m G c (Pipeline.arrRef (C m).spec w)) w t = _
  unfold stg left found
  simp only
  rw [Function.update_of_ne hne]
  exact Pipeline.fill_of_clip_none w _ (hclip _) _ _ _

/-- What any input's leaves on the part the transfers move is what the body found there. -/
theorem cut_after (c : Dev nD) (w : Fin (C m).W) (hne : Pipeline.arrRef (C m).spec w ≠ main_v12) (t : Fin (C m).N)
    (d : ((C m).win w).block.Idx → Elt F ((C m).win w).elt) :
    ((C m).win w).fill ((C m).grid.coords t) d (((C m).win w).cut ((C m).grid.coords t) ((dats m G 0 c).after w t)) = found m c w t d := by
  show ((C m).win w).fill ((C m).grid.coords t) d (((C m).win w).cut ((C m).grid.coords t) (stg m c (fun w => left m G c (Pipeline.arrRef (C m).spec w)) w t)) = _
  unfold stg left found
  rw [Window.cut_fill]
  simp only
  rw [Function.update_of_ne hne]

/-- The embedding gradients' codes and scales are staged whole at every point. -/
theorem emb_of (c : Dev nD) (t : Fin (C m).N) (d4) (d5) :
    k0_pay2 (F := F) (found m c (4 : Fin 7) t d4) (found m c (5 : Fin 7) t d5) = emb m c := by
  unfold emb
  have h4 : found m c (4 : Fin 7) t d4 = stg m c (fun w => V m c (Pipeline.arrRef (C m).spec w)) (4 : Fin 7) (t₀ m) :=
    Pipeline.fill_of_clip_none (cfg := C m) (4 : Fin 7) _ (fun _ => rfl) _ _ _
  have h5 : found m c (5 : Fin 7) t d5 = stg m c (fun w => V m c (Pipeline.arrRef (C m).spec w)) (5 : Fin 7) (t₀ m) :=
    Pipeline.fill_of_clip_none (cfg := C m) (5 : Fin 7) _ (fun _ => rfl) _ _ _
  exact congrArg₂ k0_pay2 h4 h5

end Cert.Proof.P
-- ==== Proof.P.Host.lean ====
/-
  What the buffers hold when the kernel starts: the arguments as launched, and the host lines' results as functions of
  the arguments.
-/
module

public import proofs.«01_k».proof.Proof.P.Data
public import Idealize.ShloMosaic.Lib.Pointwise
public import Idealize.ShloMosaic.Lib.StableHlo.RunRead

@[expose] public section

noncomputable section

namespace Cert.Proof.P

open Cert.Kernel Cert.Kernel.Gen
open Idealize.ShloMosaic
open Idealize.ShloMosaic.TcCoe Idealize.ShloMosaic.Tactic
open Idealize.SL.Sem

variable {F : FTy → Type} [FloatOps F]

variable (m : (ℓ : Loc nD τ sig) → Buf (Elt F) ℓ)

/-- A buffer no host line writes is as launched. -/
theorem V_unwritten (c : Dev nD) (r : Ref sig .tc)
    (hr : r ∉ ([main_v0, main_v1, main_v2, main_v3, main_v4, main_v5, main_v6, main_c, main_call0_v0, main_v7, main_v8, main_v9, main_v10, main_v11] : List (Ref sig .tc))) :
    V m c r = m ((c.tc : Thread nD τ).loc r) :=
  StableHlo.after_unwritten (ops := List.flatten [hostOps0 (F := F), hostOps0_1, hostOps0_2]) [main_v0, main_v1, main_v2, main_v3, main_v4, main_v5, main_v6, main_c, main_call0_v0, main_v7, main_v8, main_v9, main_v10, main_v11] rfl hr _

/-- The table the loop reads is the ids argument. -/
theorem ids_eq (c : Dev nD) (q : Fin 1536) : ids m c q = m ((c.tc : Thread nD τ).loc main_arg6) (ix1 q) := by
  rw [← V_unwritten m c main_arg6 (by decide)]
  unfold ids idAt
  show V m c main_arg6 _ = _
  congr 1
  funext a
  fin_cases a
  apply Fin.ext
  rfl

/-- Window 0's array: the logit gradients' codes, one row per token. -/
theorem V_v0 (c : Dev nD) : (V m c main_v0 : FVec F S1536x30592 .fp8e5m2)
    = shapeCast S1536x30592 (m ((c.tc : Thread nD τ).loc main_arg0) : FVec F S6x256x30592 .fp8e5m2) shapeCasts_S6x256x30592_S1536x30592 := by
  show StableHlo.after _ _ (Proc.devRef .tc main_v0) = _
  rfl

/-- Window 2's array: the activations' codes transposed. -/
theorem V_v2 (c : Dev nD) : (V m c main_v2 : FVec F S384x1536 .fp8e4m3)
    = transpose S384x1536 [1, 0] (shapeCast S1536x384 (m ((c.tc : Thread nD τ).loc main_arg2) : FVec F S6x256x384 .fp8e4m3) shapeCasts_S6x256x384_S1536x384) transposes_S1536x384_S384x1536_1_0 := by
  show StableHlo.after _ _ (Proc.devRef .tc main_v2) = _
  after_results
  rfl

/-- Window 3's array: the activations' scales as one row. -/
theorem V_v4 (c : Dev nD) : (V m c main_v4 : FVec F S1x1536 .bf16)
    = truncf .bf16 (shapeCast S1x1536 (m ((c.tc : Thread nD τ).loc main_arg3) : FVec F S6x256 .f32) shapeCasts_S6x256_S1x1536) bitsLt_bf16_f32 := by
  show StableHlo.after _ _ (Proc.devRef .tc main_v4) = _
  rfl

/-- Window 1's array: the logit gradients' scales, a block of 48 rows by 128 lanes per tile. -/
theorem V_v10 (c : Dev nD) : (V m c main_v10 : FVec F S60x48x128 .bf16)
    = shapeCast S60x48x128 (transpose S60x3x16x32x4 [3, 0, 2, 1, 4] (shapeCast S3x32x16x60x4
        (pad S1536x240 ![0, 0] ![0, 1] ![0, 0] (truncf .bf16 (shapeCast S1536x239 (m ((c.tc : Thread nD τ).loc main_arg1) : FVec F S6x256x239 .f32) shapeCasts_S6x256x239_S1536x239) bitsLt_bf16_f32)
          (sitofp .bf16 (constantI S_ 32 0#32)) pads_S1536x239_S1536x240_000_010)
        shapeCasts_S1536x240_S3x32x16x60x4) transposes_S3x32x16x60x4_S60x3x16x32x4_3_0_2_1_4) shapeCasts_S60x3x16x32x4_S60x48x128 := by
  show StableHlo.after _ _ (Proc.devRef .tc main_v10) = _
  after_results
  rfl

/-- Window 5's array: the embedding gradients' scales as one column. -/
theorem V_v11 (c : Dev nD) : (V m c main_v11 : FVec F S1536x1 .f32)
    = shapeCast S1536x1 (m ((c.tc : Thread nD τ).loc main_arg5) : FVec F S1536 .f32) shapeCasts_S1536_S1536x1 := by
  show StableHlo.after _ _ (Proc.devRef .tc main_v11) = _
  rfl

end Cert.Proof.P
-- ==== Proof.P.Frame.lean ====
/-
  The frame of the kernel: with sorted, nonnegative ids it runs to its end, its arguments unchanged and every counter at
  zero. Of the result nothing is said here.
-/
module

public import proofs.«01_k».proof.Proof.P.Obl
public import proofs.«01_k».proof.Proof.P.Host

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)
variable (G : (c : Dev nD) → Buf (Elt F) ((c : Thread nD τ).loc main_v12))

/-- The windows whose staging buffer nothing is said of: the result's. -/
def fgt : Fin 7 → Bool := fun | 0 => false | 1 => false | 2 => false | 3 => false | 4 => false | 5 => false | 6 => true

theorem owns_congr (c : Dev nD) {sp : Space} {S : Shape} {e : EltTy} (M : Memref sig .tc sp S e) {X Y : S.Idx → Elt F e} (h : X = Y) :
    (owns (c : Thread nD τ) M fullShare X : sProp 𝕄) ⊢ owns (c : Thread nD τ) M fullShare Y := by rw [h]

theorem body_forget (hs : ∀ c, SortedIds (ids m c)) (c : Dev nD) :
    BodyObligationLoose (dats m G 0 c) (defs₀ (F := F)) 𝒱₀ () Set.univ fgt := fun t => by
  rw [bigSep_W0, bigSep_W0]
  simp only [fgt]
  rw [show (dats m G 0 c).Φ t.succ = inv m c (t.val + 1) from rfl, show (dats m G 0 c).Φ t.castSucc = inv m c t.val from rfl,
    show (dats m G 0 c).owesAt () t.succ = (dats m G 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩⟩
  rw [before_0, before_1, before_2, before_3, before_4, before_5]
  sl_whnfR [defs₀, Defs.onTc]
  iapply (point m c t (hs c) _ _ _ _ _ _ _ _ _ _ _ _ _ _ (found m c (0 : Fin 7) t d0) (found m c (1 : Fin 7) t d1) (found m c (2 : Fin 7) t d2)
    (found m c (3 : Fin 7) t d3) (found m c (4 : Fin 7) t d4) (found m c (5 : Fin 7) t d5) X6 (emb_of m c t d4 d5) (fun _ => True)
    (fun _ _ _ _ _ _ _ _ _ _ _ _ _ _ _ _ _ _ _ _ _ _ _ _ _ _ _ _ => trivial) Set.univ _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %X %_ ⟨HΦ, H0, H1, H2, H3, H4, H5, H6⟩
  isplitl [HΦ]; · iexact HΦ
  isplitl [Ho]; · iexact Ho
  isplitl [H0]
  · iexists d0
    iapply (owns_congr c _ (cut_after m G c (0 : Fin 7) (arr_ne 0 (by decide)) t d0).symm)
    iexact H0
  isplitl [H1]
  · iapply (owns_congr c _ (after_of m G c (1 : Fin 7) (arr_ne 1 (by decide)) (fun _ _ => rfl) t d1).symm)
    iexact H1
  isplitl [H2]
  · iapply (owns_congr c _ (after_of m G c (2 : Fin 7) (arr_ne 2 (by decide)) (fun _ _ => rfl) t d2).symm)
    iexact H2
  isplitl [H3]
  · iapply (owns_congr c _ (after_of m G c (3 : Fin 7) (arr_ne 3 (by decide)) (fun _ _ => rfl) t d3).symm)
    iexact H3
  isplitl [H4]
  · iapply (owns_congr c _ (after_of m G c (4 : Fin 7) (arr_ne 4 (by decide)) (fun _ _ => rfl) t d4).symm)
    iexact H4
  isplitl [H5]
  · iapply (owns_congr c _ (after_of m G c (5 : Fin 7) (arr_ne 5 (by decide)) (fun _ _ => rfl) t d5).symm)
    iexact H5
  iexists X; iexact H6

/-! ## The launch -/

theorem hmain : Pipeline.HMainP (Ix := Unit) (Name := ℕ) (U := UR nD τ) (Lvl := ℕ) (pcfgs (F := F)) 0 (defs₀ (F := F)) 𝒱₀ m (main (F := F)) (V m) :=
  Pipeline.hmainP_prefixes (pcfgs (F := F)) 0 defs₀ 𝒱₀ m main [hostOps0, hostOps0_1, hostOps0_2]
    (by simp only [List.Forall]; exact ⟨hostOps0_sub, hostOps0_1_sub, hostOps0_2_sub⟩)
    (by simp only [List.Forall]; repeat' constructor) (fun c => main_chain c)

theorem hpf (c : Dev nD) (k : Fin 1) : V m c (pre0.ref k) = (tab m 0).1 k := by
  obtain rfl : c = 0 := Subsingleton.elim _ _
  rfl

theorem hin (c : Dev nD) : iprop(Pipeline.ΦA (Val := Elt F) (U := UR nD τ) (C m).spec c ∗ Pipeline.ΦT (U := UR nD τ) pre0 (tab m 0).1 c) ⊢ (inv m c 0 : sProp 𝕄) := by
  unfold Pipeline.ΦA inv
  rw [show (Pipeline.scopedRest (C m).spec c : sProp 𝕄) = _ from scopedRest0_eq c]
  unfold Pipeline.ΦT Pipeline.prefHeld
  rw [show (Finset.univ : Finset (Fin pre0.K)) = {0} from rfl, bigSep_singleton, ← hpf m c 0]
  iintro ⟨⟨⟨⟨%f, H9⟩, ⟨%fe, H10⟩, ⟨%fp, H11⟩⟩, Hr⟩, H1⟩
  isplitl [H9]; · iexists f; iexact H9
  isplitl [H10]
  · iexists fe; isplitr; · ipureintro; exact fun h => absurd rfl h
    iexact H10
  isplitl [H11]
  · iexists fp; isplitr; · ipureintro; exact fun h => absurd rfl h
    iexact H11
  isplitl [Hr]; · iexact Hr
  iexact H1

theorem hout (c : Dev nD) (n : ℕ) : (inv m c n : sProp 𝕄) ⊢ Pipeline.ΦA (Val := Elt F) (U := UR nD τ) (C m).spec c := by
  unfold Pipeline.ΦA inv
  rw [show (Pipeline.scopedRest (C m).spec c : sProp 𝕄) = _ from scopedRest0_eq c]
  iintro ⟨⟨%f, H9⟩, ⟨%fe, -, H10⟩, ⟨%fp, -, H11⟩, Hr, -⟩
  isplitl [H9 H10 H11]
  · isplitl [H9]; · iexists f; iexact H9
    isplitl [H10]; · iexists fe; iexact H10
    iexists fp; iexact H11
  iexact Hr

theorem run_forget (ρ : Dev nD → PrngReg) (hs : ∀ c, SortedIds (ids m c)) :
    θ_run defs (onTc (τ := τ) (main (F := F))) ⟨m, fun _ => 0, ρ⟩
      (fun r => Pipeline.RDat.FramePost (C m) (fun c => (dats m G 0 c).toRForget fgt) (V m) r ∧ r.2.sem = fun _ => 0) :=
  Pipeline.θ_run_frameP_track_forget (pcfgs (F := F)) (tab m) (dats m G) 0 launch0 defs₀ 𝒱₀ fgt m ρ main
    (hbody := body_forget m G hs) (hshare := fun c => (dats m G 0 c).share_full fun _ => rfl) (howed := fun _ _ => rfl)
    (V := V m) (hmain := hmain m) (hA := fun _ _ => rfl) (hpf := hpf m) (hin := hin m) (hout := fun c => hout m c _)
    (Q' := fun r => Pipeline.RDat.FramePost (C m) (fun c => (dats m G 0 c).toRForget fgt) (V m) r ∧ r.2.sem = fun _ => 0)
    (hQ' := fun _ h => h)

/-- From sorted ids the program returns, leaves its arguments as they were, and every semaphore at zero. -/
theorem frame (ρ : Dev nD → PrngReg) (hs : ∀ c : Dev nD, SortedIds (fun q => m ((c.tc : Thread nD τ).loc main_arg6) (ix1 q))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have hs' : ∀ c, SortedIds (ids m c) := fun c => by
    rw [show ids m c = fun q => m ((c.tc : Thread nD τ).loc main_arg6) (ix1 q) from funext (ids_eq m c)]
    exact hs c
  refine (θ_run defs _ _).mono (fun r h => ⟨fun c => ⟨?_, ?_, ?_, ?_, ?_, ?_, ?_⟩, h.2⟩) (run_forget m (fun c => V m c main_v12) ρ hs')
  · exact ((h.1 c).2 main_arg0 (Pipeline.mem_restRefs_of main_arg0 (by decide) (by exact (by decide : ∀ w, Pipeline.arrRef spec0 w ≠ main_arg0)))).trans (V_unwritten m c main_arg0 (by decide))
  · exact ((h.1 c).2 main_arg1 (Pipeline.mem_restRefs_of main_arg1 (by decide) (by exact (by decide : ∀ w, Pipeline.arrRef spec0 w ≠ main_arg1)))).trans (V_unwritten m c main_arg1 (by decide))
  · exact ((h.1 c).2 main_arg2 (Pipeline.mem_restRefs_of main_arg2 (by decide) (by exact (by decide : ∀ w, Pipeline.arrRef spec0 w ≠ main_arg2)))).trans (V_unwritten m c main_arg2 (by decide))
  · exact ((h.1 c).2 main_arg3 (Pipeline.mem_restRefs_of main_arg3 (by decide) (by exact (by decide : ∀ w, Pipeline.arrRef spec0 w ≠ main_arg3)))).trans (V_unwritten m c main_arg3 (by decide))
  · exact (h.1.arr_in c 4 rfl).trans (V_unwritten m c main_arg4 (by decide))
  · exact ((h.1 c).2 main_arg5 (Pipeline.mem_restRefs_of main_arg5 (by decide) (by exact (by decide : ∀ w, Pipeline.arrRef spec0 w ≠ main_arg5)))).trans (V_unwritten m c main_arg5 (by decide))
  · exact ((h.1 c).2 main_arg6 (Pipeline.mem_restRefs_of main_arg6 (by decide) (by exact (by decide : ∀ w, Pipeline.arrRef spec0 w ≠ main_arg6)))).trans (V_unwritten m c main_arg6 (by decide))

end Cert.Proof.P
-- ==== Proof.PI.Base.lean ====
/-
  What every module of the kernel's frame proof shares: the resource algebra, a buffer held whole, the ids as the loop
  reads them, and the list of row writes the loop makes.
-/
module

public import proofs.«01_k».proof.Kernel
public import proofs.«01_k».proof.Proof.Gen.KernelIdeal
public import proofs.«01_k».proof.Proof.Gen.KernelIdeal.Skeleton
public import proofs.«01_k».proof.Proof.Split
public import Idealize.ShloMosaic.Lib.Tactic

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The loop's variant: the trips to run. -/
abbrev 𝒱₀ : Variants := Variants.nat

theorem id_inb (q : Fin 1536) : ∀ a, (![q.val] : Fin 1 → Nat) a + S1.size a ≤ S1536.size a := by
  intro a; fin_cases a; exact q.isLt

/-- The id at position `q` of the table held at `ft`. -/
def idAt {c : Dev nD} (arg1 : Memref sig .tc .smem S1536 .i32) (ft : Bf (F := F) c arg1) (q : Fin 1536) : BitVec 32 :=
  arg1.view.readAt (Elt F) (Rect.unit (s := S1536) ![q.val] S1.size (id_inb q)).toLoadRect ft (Shape.Idx.first (numel1_S1.symm ▸ Nat.one_pos))

/-- The result tile after `k` trips from position `p`: each trip adds row `p` of the scaled embedding gradients to the row
    its id names; the tile is kept as its list of writes, the latest first. -/
def trips {c : Dev nD} (i : grid0.Coords) (arg1 : Memref sig .tc .smem S1536 .i32) (ft : Bf (F := F) c arg1)
    (arg8 : Memref sig .tc .vmem S512x384 .f32) (arg10 : Memref sig .tc .vmem S1536x384 .f32) (fe : Bf (F := F) c arg10) :
    (k p : ℕ) → List (View.Piece (Elt F) S512x384 .f32) → List (View.Piece (Elt F) S512x384 .f32)
  | 0, _, L => L
  | k + 1, p, L =>
    if hp : p < 1536 then
      if h3 : k0_chk3 i (idAt arg1 ft ⟨p, hp⟩) then
        if h2 : k0_chk2 (BitVec.ofNat 32 p) then
          trips i arg1 ft arg8 arg10 fe k (p + 1)
            (⟨Rect.unit (s := S512x384) (k0_off3 i (idAt arg1 ft ⟨p, hp⟩)) S1x384.size (k0_off3_inb i _ h3),
              k0_pay1 (arg8.view.readCov L (Rect.unit (s := S512x384) (k0_off3 i (idAt arg1 ft ⟨p, hp⟩)) S1x384.size (k0_off3_inb i _ h3)).toLoadRect)
                (arg10.view.readAt (Elt F) (Rect.unit (s := S1536x384) (k0_off4 (BitVec.ofNat 32 p)) S1x384.size (k0_off4_inb _ h2)).toLoadRect fe)⟩ :: L)
        else L
      else L
    else L

/-- Grid point `i`'s coordinate is below 60. -/
theorem coord_lt (i : grid0.Coords) : (i 0).val < 60 := (i 0).isLt

end Cert.Proof.PI
-- ==== Proof.PI.While.lean ====
/-
  The loop over the embedding rows. Entered at position `p` with `k` trips to run, it returns position `p + k` and leaves
  the result tile at `trips … k p` of what it was; the ids' table and the scaled embedding gradients are as they were.
-/
module

public import proofs.«01_k».proof.Proof.PI.Base

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A position up to the last passes the loop's first side condition; -/
theorem chk1_of (p : ℕ) (h : p ≤ 1536) : k0_chk1 (BitVec.ofNat 32 p) := by
  intro a; fin_cases a
  show (Scalar.indexCast (Scalar.minsi (BitVec.ofNat 32 p) 1535#32)).toNat + 1 ≤ 1536
  rw [clamp_toNat p h]; omega
/-- a position of the table passes the second; -/
theorem chk2_of (p : ℕ) (h : p < 1536) : k0_chk2 (BitVec.ofNat 32 p) := by
  refine ⟨fun a => ?_, fun a => ?_⟩
  · fin_cases a
    show (Scalar.indexCast (BitVec.ofNat 32 p)).toNat + 1 ≤ 1536
    rw [counter_toNat p (by omega)]; omega
  · fin_cases a
    · show (Scalar.indexCast (BitVec.ofNat 32 p)).toNat + 1 ≤ 1536
      rw [counter_toNat p (by omega)]; omega
    · show 0 + 384 ≤ 384
      omega
/-- an id of the tile passes the third. -/
theorem chk3_of (i : grid0.Coords) (w : BitVec 32) (hlo : ((512 * (i 0).val : ℕ) : ℤ) ≤ w.toInt)
    (hhi : w.toInt < ((512 * ((i 0).val + 1) : ℕ) : ℤ)) : k0_chk3 i w := by
  intro a; fin_cases a
  · show (Scalar.indexCast (Scalar.subi w (Scalar.muli (BitVec.ofNat 32 (i 0).val) 512#32))).toNat + 1 ≤ 512
    obtain ⟨h1, h2, h3⟩ := row_toNat w _ (coord_lt i) hlo hhi
    rw [h1]; omega
  · show 0 + 384 ≤ 384
    omega

section
variable (c : Dev nD) (i : grid0.Coords) (arg1 : Memref sig .tc .smem S1536 .i32) (harg1 : arg1.IsWhole)
  (arg8 : Memref sig .tc .vmem S512x384 .f32) (harg8 : arg8.IsWhole) (arg10 : Memref sig .tc .vmem S1536x384 .f32) (harg10 : arg10.IsWhole)
  (qt : PosShare TreeShare) (ft : Bf (F := F) c arg1) (fe : Bf (F := F) c arg10)

/-- The id the loop's test reads, at the clamped position. -/
theorem read_clamped (p : ℕ) (h : p < 1536) (hc : k0_chk1 (BitVec.ofNat 32 p)) :
    arg1.view.readAt (Elt F) (Rect.unit (s := S1536) (k0_off1 (BitVec.ofNat 32 p)) S1.size (k0_off1_inb _ hc)).toLoadRect ft
      (Shape.Idx.first (numel1_S1.symm ▸ Nat.one_pos)) = idAt arg1 ft ⟨p, h⟩ := by
  have e : k0_off1 (BitVec.ofNat 32 p) = ![p] := by
    show ![(Scalar.indexCast (Scalar.minsi (BitVec.ofNat 32 p) 1535#32)).toNat] = _
    rw [clamp_toNat p (by omega), Nat.min_eq_left (by omega)]
  unfold idAt
  congr 1; simp only [e]
/-- The id the trip reads. -/
theorem read_id (p : ℕ) (h : p < 1536) (hc : k0_chk2 (BitVec.ofNat 32 p)) :
    arg1.view.readAt (Elt F) (Rect.unit (s := S1536) (k0_off2 (BitVec.ofNat 32 p)) S1.size (k0_off2_inb _ hc)).toLoadRect ft
      (Shape.Idx.first (numel1_S1.symm ▸ Nat.one_pos)) = idAt arg1 ft ⟨p, h⟩ := by
  have e : k0_off2 (BitVec.ofNat 32 p) = ![p] := by
    show ![(Scalar.indexCast (BitVec.ofNat 32 p)).toNat] = _
    rw [counter_toNat p (by omega)]
  unfold idAt
  congr 1; simp only [e]

/-- The buffers the loop reads and writes: the ids' table, the result tile at a list of writes, the scaled embedding
    gradients. -/
def held (L : List (View.Piece (Elt F) S512x384 .f32)) : sProp 𝕄 :=
  iprop((arg1.view.loc (c : Thread nD τ) ↦{qt} ft) ∗ pt c arg8 (arg8.view.writes (Elt F) arg8.view.junk L) ∗ pt c arg10 fe)

/-- The loop's specification with `k` trips to run from position `p`. -/
def spec (k p : ℕ) (L : List (View.Piece (Elt F) S512x384 .f32)) : sWPT 𝕄 (BitVec 32) := do
  sWPT.consume (held c arg1 arg8 arg10 qt ft fe L)
  sWPT.produce (held c arg1 arg8 arg10 qt ft fe (trips i arg1 ft arg8 arg10 fe k p L))
  pure (BitVec.ofNat 32 (p + k))

theorem spec_apply (k p : ℕ) (L : List (View.Piece (Elt F) S512x384 .f32)) (K : BitVec 32 → sProp 𝕄) :
    spec c i arg1 arg8 arg10 qt ft fe k p L K
      = iprop(held c arg1 arg8 arg10 qt ft fe L
          ∗ (held c arg1 arg8 arg10 qt ft fe (trips i arg1 ft arg8 arg10 fe k p L) -∗ K (BitVec.ofNat 32 (p + k)))) := rfl

set_option maxHeartbeats 1000000 in
/-- The loop meets its specification: from `p` the next `k` ids are the tile's and the one after them, if any, is not. -/
theorem spec_le (E : Set ℕ) : ∀ k p, p + k ≤ 1536 →
    (∀ q : Fin 1536, p ≤ q.val → q.val < p + k → ((512 * (i 0).val : ℕ) : ℤ) ≤ (idAt arg1 ft q).toInt
      ∧ (idAt arg1 ft q).toInt < ((512 * ((i 0).val + 1) : ℕ) : ℤ)) →
    (∀ q : Fin 1536, q.val = p + k → ¬(idAt arg1 ft q).toInt < ((512 * ((i 0).val + 1) : ℕ) : ℤ)) →
    ∀ L K, spec c i arg1 arg8 arg10 qt ft fe k p L K
      ⊢ wp frame (wpE (defs₀ (F := F)) 𝒱₀ (c : Thread nD τ) (some k)) E
          (defs₀ (F := F) .tc 1 ⟨i, arg1, harg1, arg8, harg8, arg10, harg10, BitVec.ofNat 32 p⟩) K := by
  intro k
  induction k with
  | zero =>
    intro p hp _ hend L K
    rw [spec_apply]
    show _ ⊢ wp frame (wpE (defs₀ (F := F)) 𝒱₀ (c : Thread nD τ) (some 0)) E
      (cc0_while1 i arg1 harg1 arg8 harg8 arg10 harg10 (BitVec.ofNat 32 p)) K
    simp only [cc0_while1_eq_skeleton]; unfold cc0_while1_skel
    simp only [smemLoad, smemLoadElt, Prog.lift, Prog.bind_op, Prog.bind_ret, Prog.pure_eq_ret]
    unfold held
    iintro ⟨⟨Ht, Ho, He⟩, Hk⟩
    iapply (wp_assume 𝒱₀ (c : Thread nD τ) (some 0) E (chk1_of p hp))
    iapply (wp_load 𝒱₀ (c : Thread nD τ) (some 0) E (m := arg1) (Finset.subset_univ _)) $$ Ht; iintro Ht
    have htest : ¬Scalar.andi (Scalar.cmpi .slt (BitVec.ofNat 32 p) 1536#32) (Scalar.cmpi .slt
        (arg1.view.readAt (Elt F) (Rect.unit (s := S1536) (k0_off1 (BitVec.ofNat 32 p)) S1.size (k0_off1_inb _ (chk1_of p hp))).toLoadRect ft
          (Shape.Idx.first (numel1_S1.symm ▸ Nat.one_pos)))
        (Scalar.addi (Scalar.muli (BitVec.ofNat 32 (i 0).val) 512#32) 512#32)) = 1#1 := by
      rw [cmp_counter p hp, cmp_id _ _ (coord_lt i), test_eq]
      rintro ⟨h1, h2⟩
      rw [read_clamped c arg1 ft p h1 (chk1_of p hp)] at h2
      exact hend ⟨p, h1⟩ rfl h2
    rw [if_neg htest, wp_ret]; imodintro
    iapply Hk
    unfold trips
    isplitl [Ht]; · iexact Ht
    isplitl [Ho]; · iexact Ho
    iexact He
  | succ k ih =>
    intro p hp hin hend L K
    have hp' : p < 1536 := by omega
    have hid := hin ⟨p, hp'⟩ le_rfl (by show p < p + (k + 1); omega)
    have h3 := chk3_of i _ hid.1 hid.2
    have h2 := chk2_of p hp'
    rw [spec_apply]
    show _ ⊢ wp frame (wpE (defs₀ (F := F)) 𝒱₀ (c : Thread nD τ) (some (k + 1))) E
      (cc0_while1 i arg1 harg1 arg8 harg8 arg10 harg10 (BitVec.ofNat 32 p)) K
    simp only [cc0_while1_eq_skeleton]; unfold cc0_while1_skel
    simp only [smemLoad, smemLoadElt, Prog.lift, Prog.bind_op, Prog.bind_ret, Prog.pure_eq_ret]
    unfold held
    iintro ⟨⟨Ht, Ho, He⟩, Hk⟩
    iapply (wp_assume 𝒱₀ (c : Thread nD τ) (some (k + 1)) E (chk1_of p (by omega)))
    iapply (wp_load 𝒱₀ (c : Thread nD τ) (some (k + 1)) E (m := arg1) (Finset.subset_univ _)) $$ Ht; iintro Ht
    have htest : Scalar.andi (Scalar.cmpi .slt (BitVec.ofNat 32 p) 1536#32) (Scalar.cmpi .slt
        (arg1.view.readAt (Elt F) (Rect.unit (s := S1536) (k0_off1 (BitVec.ofNat 32 p)) S1.size (k0_off1_inb _ (chk1_of p (by omega)))).toLoadRect ft
          (Shape.Idx.first (numel1_S1.symm ▸ Nat.one_pos)))
        (Scalar.addi (Scalar.muli (BitVec.ofNat 32 (i 0).val) 512#32) 512#32)) = 1#1 := by
      rw [cmp_counter p (by omega), cmp_id _ _ (coord_lt i), test_eq, read_clamped c arg1 ft p hp' (chk1_of p (by omega))]
      exact ⟨hp', hid.2⟩
    rw [if_pos htest]
    iapply (wp_assume 𝒱₀ (c : Thread nD τ) (some (k + 1)) E h2)
    iapply (wp_load 𝒱₀ (c : Thread nD τ) (some (k + 1)) E (m := arg1) (Finset.subset_univ _)) $$ Ht; iintro Ht
    rw [read_id c arg1 ft p hp' h2]
    iapply (wp_assume 𝒱₀ (c : Thread nD τ) (some (k + 1)) E h3)
    iapply (wp_load 𝒱₀ (c : Thread nD τ) (some (k + 1)) E (m := arg8) (Finset.subset_univ _)) $$ Ho; iintro Ho
    iapply (wp_load 𝒱₀ (c : Thread nD τ) (some (k + 1)) E (m := arg10) (Finset.subset_univ _)) $$ He; iintro He
    iapply (wp_load 𝒱₀ (c : Thread nD τ) (some (k + 1)) E (m := arg8) (Finset.subset_univ _)) $$ Ho; iintro Ho
    iapply (wp_store 𝒱₀ (c : Thread nD τ) (some (k + 1)) E (m := arg8)
      (r := Rect.unit (s := S512x384) (k0_off3 i (idAt arg1 ft ⟨p, hp'⟩)) S1x384.size (k0_off3_inb i _ h3)) (Mk := Finset.univ) (Finset.subset_univ _)) $$ Ho; iintro Ho
    have hadd : Scalar.addi (BitVec.ofNat 32 p) 1#32 = BitVec.ofNat 32 (p + 1) := by
      show BitVec.ofNat 32 p + 1#32 = _
      rw [BitVec.ofNat_add]
    rw [hadd]
    obtain ⟨L', hL'⟩ : ∃ L' : List (View.Piece (Elt F) S512x384 .f32), L' =
            (⟨Rect.unit (s := S512x384) (k0_off3 i (idAt arg1 ft ⟨p, hp'⟩)) S1x384.size (k0_off3_inb i _ h3),
              k0_pay1 (arg8.view.readCov L (Rect.unit (s := S512x384) (k0_off3 i (idAt arg1 ft ⟨p, hp'⟩)) S1x384.size (k0_off3_inb i _ h3)).toLoadRect)
                (arg10.view.readAt (Elt F) (Rect.unit (s := S1536x384) (k0_off4 (BitVec.ofNat 32 p)) S1x384.size (k0_off4_inb _ h2)).toLoadRect fe)⟩ :: L) := ⟨_, rfl⟩
    have htr : trips i arg1 ft arg8 arg10 fe (k + 1) p L = trips i arg1 ft arg8 arg10 fe k (p + 1) L' := by
      rw [hL', trips, dif_pos hp', dif_pos h3, dif_pos h2]
    rw [htr]
    have hT := ih (p + 1) (by omega) (fun q h1 h2 => hin q (by omega) (by omega)) (fun q h1 => hend q (by omega)) L'
    iapply (wp_call_spec 𝒱₀ (c : Thread nD τ) (some (k + 1)) E (spec c i arg1 arg8 arg10 qt ft fe k (p + 1) L') k
      (fun u hu => by cases hu; exact Nat.lt_succ_self k) hT)
    rw [spec_apply]; unfold held
    isplitl [Ht Ho He]
    · isplitl [Ht]; · iexact Ht
      isplitl [Ho]
      · rw [hL', View.writes_cons]; iexact Ho
      iexact He
    iintro ⟨Ht, Ho, He⟩
    rw [wp_ret]; imodintro
    rw [show p + 1 + k = p + (k + 1) from by omega]
    iapply Hk
    isplitl [Ht]; · iexact Ht
    isplitl [Ho]; · iexact Ho
    iexact He

end

end Cert.Proof.PI
-- ==== Proof.PI.Run.lean ====
/-
  The kernel body run once, at symbolic operands. `bodyRun` is what the body stores over the result tile before the loop,
  with the proof that from the staged blocks, the scratch buffers and the ids' table the body runs to its return: the
  staged blocks and the table are as they were, the result tile has the loop's rows added, the scaled embedding
  gradients were stored at the first point and kept at the others, and the counter is at the next tile's position.
-/
module

public import proofs.«01_k».proof.Proof.PI.While

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The whole result tile. -/
abbrev tileRect : Rect S512x384 := Rect.unit (s := S512x384) ![0, 0] S512x384.size inb_S512x384_S512x384_0_0

/-- The counter held at `fp`. -/
def word {c : Dev nD} (arg11 : Memref sig .tc .smem S1 .i32) (fp : Bf (F := F) c arg11) : BitVec 32 :=
  arg11.view.readAt (Elt F) (Rect.unit (s := S1) ![0] S1.size inb_S1_S1_0).toLoadRect fp (Shape.Idx.first (numel1_S1.symm ▸ Nat.one_pos))

/-- The scaled embedding gradients of the staged codes and scales. -/
def scaled {c : Dev nD} (arg6 : Memref sig .tc .vmem S1536x384 .fp8e5m2) (arg7 : Memref sig .tc .vmem S1536x1 .f32)
    (f6 : Bf (F := F) c arg6) (f7 : Bf (F := F) c arg7) : FVec F S1536x384 .f32 :=
  k0_pay2 (arg6.view.readAt (Elt F) (Rect.unit (s := S1536x384) ![0, 0] S1536x384.size inb_S1536x384_S1536x384_0_0).toLoadRect f6)
    (arg7.view.readAt (Elt F) (Rect.unit (s := S1536x1) ![0, 0] S1536x1.size inb_S1536x1_S1536x1_0_0).toLoadRect f7)

/-- The counter after a store of `w`. -/
theorem word_store (c : Dev nD) (arg11 : Memref sig .tc .smem S1 .i32) (fp : Bf (F := F) c arg11) (w : BitVec 32) :
    word (c := c) arg11 (arg11.view.writes (Elt F) fp [⟨Rect.unit (s := S1) ![0] S1.size inb_S1_S1_0, fun _ => w⟩]) = w := by
  unfold word
  rw [View.readAt_apply]
  exact View.read_writes_cons_emb _ _ _ _ _ _

/-- A buffer written whole reads as what was written. -/
theorem read_write_whole {c : Dev nD} {sp : Space} {S : Shape} {e : EltTy} (M : Memref sig .tc sp S e) {off : Fin S.rank → Nat}
    (h : off = fun _ => 0) (inb : ∀ a, off a + S.size a ≤ S.size a) (f : Bf (F := F) c M) (w : S.Idx → Elt F e) :
    M.view.read (Elt F) (M.view.writes (Elt F) f [⟨Rect.unit off S.size inb, w⟩]) = w := by
  subst h; funext y
  have e := View.read_writes_cons_emb (Val := Elt F) M.view f (Rect.whole S) w [] y
  rw [Rect.emb_whole_apply] at e
  exact e

/-- The first conditional's test: the point's coordinate is zero. -/
theorem first_iff (i : grid0.Coords) :
    Scalar.cmpi .ne (Scalar.extui (Scalar.cmpi .eq (BitVec.ofNat 32 (i 0).val) 0#32) : BitVec 32) 0#32 = 1#1 ↔ (i 0).val = 0 := by
  have : ∀ n : Fin 60, Scalar.cmpi .ne (Scalar.extui (Scalar.cmpi .eq (BitVec.ofNat 32 n.val) 0#32) : BitVec 32) 0#32 = 1#1 ↔ n.val = 0 := by
    decide
  exact this (i 0)

noncomputable def bodyRun (c : Dev nD) (i : grid0.Coords) (arg1 : Memref sig .tc .smem S1536 .i32) (harg1 : arg1.IsWhole)
    (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole) (arg9 : Memref sig .tc .vmem S1536x512 .bf16) (harg9 : arg9.IsWhole)
    (arg10 : Memref sig .tc .vmem S1536x384 .f32) (harg10 : arg10.IsWhole) (arg11 : Memref sig .tc .smem S1 .i32) (harg11 : arg11.IsWhole)
    (f2 : Bf (F := F) c arg2) (f3 : Bf (F := F) c arg3) (f4 : Bf (F := F) c arg4) (f5 : Bf (F := F) c arg5) :
    { W : Vec F S512x384 .f32 //
      ∀ (f6 : Bf (F := F) c arg6) (f7 : Bf (F := F) c arg7) (f8 : Bf (F := F) c arg8) (f9 : Bf (F := F) c arg9)
        (f10 : Bf (F := F) c arg10) (f11 : Bf (F := F) c arg11) (qt : PosShare TreeShare) (ft : Bf (F := F) c arg1) (p p' : ℕ)
        (_ : SortedIds (idAt arg1 ft)) (_ : Split (idAt arg1 ft) (512 * (i 0).val) p)
        (_ : Split (idAt arg1 ft) (512 * ((i 0).val + 1)) p') (_ : (i 0).val ≠ 0 → word arg11 f11 = BitVec.ofNat 32 p)
        (E : Set ℕ) (Q : PUnit → sProp 𝕄),
        iprop((arg1.view.loc (c : Thread nD τ) ↦{qt} ft) ∗ pt c arg2 f2 ∗ pt c arg3 f3 ∗ pt c arg4 f4 ∗ pt c arg5 f5 ∗ pt c arg6 f6 ∗ pt c arg7 f7
            ∗ pt c arg8 f8 ∗ pt c arg9 f9 ∗ pt c arg10 f10 ∗ pt c arg11 f11
            ∗ (∀ (fe : Bf (F := F) c arg10) (fp : Bf (F := F) c arg11),
                ⌜((i 0).val = 0 → arg10.view.read (Elt F) fe = scaled arg6 arg7 f6 f7) ∧ ((i 0).val ≠ 0 → fe = f10)
                  ∧ word arg11 fp = BitVec.ofNat 32 p'⌝ -∗
                iprop((arg1.view.loc (c : Thread nD τ) ↦{qt} ft) ∗ pt c arg2 f2 ∗ pt c arg3 f3 ∗ pt c arg4 f4 ∗ pt c arg5 f5 ∗ pt c arg6 f6 ∗ pt c arg7 f7
                  ∗ pt c arg8 (arg8.view.writes (Elt F) arg8.view.junk (trips i arg1 ft arg8 arg10 fe (p' - p) p [⟨tileRect, W⟩]))
                  ∗ (∃ f, pt c arg9 f) ∗ pt c arg10 fe ∗ pt c arg11 fp) -∗ Q ⟨⟩))
          ⊢ wp frame (wpE (defs₀ (F := F)) 𝒱₀ c none) E
              (cc0_tied_dw i arg1 harg1 arg2 harg2 arg3 harg3 arg4 harg4 arg5 harg5 arg6 harg6 arg7 harg7 arg8 harg8 arg9 harg9 arg10 harg10 arg11 harg11) Q } := by
  refine ⟨?_, fun f6 f7 f8 f9 f10 f11 qt ft p p' hs hp hp' hw E Q => ?run⟩
  case run =>
    iintro ⟨H1, H2, H3, H4, H5, H6, H7, H8, H9, H10, H11, Hk⟩
    sl_exec_parts!
    have hpp : p ≤ p' := split_mono hp hp' (Nat.mul_le_mul_left 512 (Nat.le_succ _))
    have hword : bodyRun.sl.r_164 c i arg11 f11 = BitVec.ofNat 32 p := by
      by_cases hz : (i 0).val = 0
      · have hv : bodyRun.sl.v2 i = 1#1 := (first_iff i).mpr hz
        have hp0 : p = 0 := split_unique hp (by rw [hz]; exact split_zero hs)
        have := word_store c arg11 f11 0#32
        unfold bodyRun.sl.r_164 bodyRun.sl.f
        rw [dif_pos hv, hp0]
        exact this
      · have hv : ¬bodyRun.sl.v2 i = 1#1 := fun h => hz ((first_iff i).mp h)
        have := hw hz
        unfold bodyRun.sl.r_164 bodyRun.sl.f
        rw [dif_neg hv]
        exact this
    rw [hword]
    obtain ⟨fe, hfe⟩ : ∃ fe : Bf (F := F) c arg10, fe = (if hc : bodyRun.sl.v2 i = 1#1 then
        arg10.view.writes (Elt F) f10 [⟨Rect.unit (s := S1536x384) ![0, 0] S1536x384.size inb_S1536x384_S1536x384_0_0, scaled arg6 arg7 f6 f7⟩]
      else f10) := ⟨_, rfl⟩
    have hfe0 : (i 0).val = 0 → arg10.view.read (Elt F) fe = scaled arg6 arg7 f6 f7 := by
      intro hz
      have hv : bodyRun.sl.v2 i = 1#1 := (first_iff i).mpr hz
      rw [hfe, dif_pos hv]
      exact read_write_whole arg10 (funext fun a => by fin_cases a <;> rfl) _ f10 _
    have hfe1 : (i 0).val ≠ 0 → fe = f10 := by
      intro hz
      have hv : ¬bodyRun.sl.v2 i = 1#1 := fun h => hz ((first_iff i).mp h)
      rw [hfe, dif_neg hv]
    have hT := spec_le c i arg1 harg1 arg8 harg8 arg10 harg10 qt ft fe E (p' - p) p (by have := hp'.1; omega)
      (fun q h1 h2 => ⟨not_lt.mp (fun h => by have := (hp.2 q).mpr h; omega), (hp'.2 q).mp (by omega)⟩)
      (fun q h1 h => by have := (hp'.2 q).mpr h; omega)
      [⟨tileRect, bodyRun.sl.r_163 c arg2 arg3 arg4 arg5 arg9 f2 f3 f4 f5⟩]
    iapply (wp_call_spec 𝒱₀ (c : Thread nD τ) none E _ (p' - p) (fun u hu => nomatch hu) hT)
    rw [spec_apply]; unfold held
    isplitl [H1 H8 H10]
    · isplitl [H1]; · iexact H1
      isplitl [H8]; · iexact H8
      rw [hfe]; iexact H10
    iintro ⟨H1, H8, H10⟩
    simp only [smemLoad, smemLoadElt, Prog.lift, Prog.bind_op, Prog.bind_ret, Prog.pure_eq_ret]
    iapply (wp_load 𝒱₀ (c : Thread nD τ) none E (m := arg11) (Finset.subset_univ _)) $$ H11; iintro H11
    iapply (wp_store 𝒱₀ (c : Thread nD τ) none E (m := arg11)
      (r := Rect.unit (s := S1) ![0] S1.size inb_S1_S1_0) (Mk := Finset.univ) (Finset.subset_univ _)) $$ H11; iintro H11
    rw [wp_ret]; imodintro
    have hadd : p + (p' - p) = p' := by omega
    rw [hadd]
    iapply Hk $$ %fe %_ %⟨hfe0, hfe1, word_store c arg11 _ _⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexact H11

end Cert.Proof.PI
-- ==== Proof.PI.Data.lean ====
/-
  The launch's proof data. `V` is what the unscoped buffers hold when the region is entered, `tab` the prefetched ids'
  table, `dats` the data: the windows' arrays at `V`; each input's staging buffer kept at its block, the result's left at
  its block of the array `G`; and, between the points, the scaled embedding gradients kept in scratch and the counter at
  the position the tile's bound splits the sorted ids at.
-/
module

public import proofs.«01_k».proof.Proof.PI.Run
public import proofs.«01_k».proof.Proof.Gen.KernelIdeal.Launch
public import Idealize.ShloMosaic.Lib.Pipeline.Frame
public import Idealize.ShloMosaic.Lib.Pipeline.FrameBody
public import Idealize.ShloMosaic.Lib.Pipeline.Value

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)

/-- What core `c`'s buffers hold after the host operations. -/
abbrev V (c : Dev nD) (b : Ref sig .tc) : Buf (Elt F) ((c : Thread nD τ).loc b) :=
  StableHlo.after (List.flatten [hostOps0, hostOps0_1, hostOps0_2]) (fun b => m (c, b)) (Proc.devRef .tc b)

/-- The prefetched table's contents. -/
def tab : (p : Fin 1) → (pcfgs (F := F) p).Adm := fun _ => ⟨fun k => V m 0 (pre0.ref k), trivial⟩

/-- The pipeline at that table. -/
abbrev C : Cfg sig (Λ₀ F) := Pipeline.pin (pcfgs (F := F)) (tab m) 0

/-- The ids as the body reads them. -/
abbrev ids (c : Dev nD) : Fin 1536 → BitVec 32 := idAt (c := c) (Memref.whole main_arg6) (V m c main_arg6)

/-- The arrays' contents as the body leaves the staging buffers: the entry contents, `G` for the result. -/
def left (G : (c : Dev nD) → Buf (Elt F) ((c : Thread nD τ).loc main_v12)) (c : Dev nD) (b : Ref sig .tc) : Buf (Elt F) ((c : Thread nD τ).loc b) :=
  Function.update (V m c) main_v12 (G c) b

/-- A window's staging buffer at its block of the array held at `X`, past the array's end whatever. -/
def stg (c : Dev nD) (X : (w : Fin (C m).W) → Buf (Elt F) (((C m).win w).arr.view.loc (c : Thread nD τ))) (w : Fin (C m).W) (t : Fin (C m).N) :
    ((C m).win w).block.Idx → Elt F ((C m).win w).elt :=
  ((C m).win w).fill ((C m).grid.coords t) (fun _ => Classical.arbitrary _) ((((C m).win w).blk t).view.read (Elt F) (X w))

/-- The first point. -/
def t₀ : Fin (C m).N := ⟨0, by show 0 < grid0.N; rw [N_0]; decide⟩

/-- The scaled embedding gradients. -/
def emb (c : Dev nD) : FVec F S1536x384 .f32 :=
  k0_pay2 (stg m c (fun w => V m c (Pipeline.arrRef (C m).spec w)) (4 : Fin 7) (t₀ m)) (stg m c (fun w => V m c (Pipeline.arrRef (C m).spec w)) (5 : Fin 7) (t₀ m))

/-- What holds between the points. -/
def inv (c : Dev nD) (n : ℕ) : sProp 𝕄 :=
  iprop((∃ f, pt c (Memref.whole cc0_scratch0) f)
    ∗ (∃ f : Bf (F := F) c (Memref.whole cc0_scratch1), ⌜n ≠ 0 → (Memref.whole cc0_scratch1 : Memref sig .tc _ _ _).view.read (Elt F) f = emb m c⌝ ∗ pt c (Memref.whole cc0_scratch1) f)
    ∗ (∃ f : Bf (F := F) c (Memref.whole cc0_scratch2), ⌜n ≠ 0 → ∀ p, Split (ids m c) (512 * n) p → word (Memref.whole cc0_scratch2) f = BitVec.ofNat 32 p⌝ ∗ pt c (Memref.whole cc0_scratch2) f)
    ∗ (∃ r, prngReg c r)
    ∗ ((Memref.whole main_arg6).view.loc (c : Thread nD τ) ↦{fullShare.right} V m c main_arg6))

/-- The proof data. -/
def dats (G : (c : Dev nD) → Buf (Elt F) ((c : Thread nD τ).loc main_v12)) (p : Fin 1) (c : Dev nD) :
    Dat τ (Elt F) Unit ℕ (UR nD τ) ℕ (Pipeline.pin (pcfgs (F := F)) (tab m) p) c where
  A w := V m c (Pipeline.arrRef (C m).spec w)
  after w t := stg m c (fun w => left m G c (Pipeline.arrRef (C m).spec w)) w t
  Φ t := inv m c t.val
  q _ := fullShare
  owed _ := 0

variable (G : (c : Dev nD) → Buf (Elt F) ((c : Thread nD τ).loc main_v12))

/-- An input's staging buffer is found and left at its block of the entry contents. -/
theorem before_in (c : Dev nD) (w : Fin (C m).W) (hw : ((C m).win w).isOut = false) (hne : Pipeline.arrRef (C m).spec w ≠ main_v12)
    (hlive : ∀ i, (C m).idle w i = false) (hclip : ∀ t t' : Fin (C m).N, ((C m).win w).index t = ((C m).win w).index t' →
      ((C m).win w).clip ((C m).grid.coords t) = ((C m).win w).clip ((C m).grid.coords t')) (t : Fin (C m).N)
    (d : ((C m).win w).block.Idx → Elt F ((C m).win w).elt) :
    (dats m G 0 c).before w t d = ((C m).win w).fill ((C m).grid.coords t) d ((((C m).win w).blk t).view.read (Elt F) (V m c (Pipeline.arrRef (C m).spec w))) := by
  refine (dats m G 0 c).before_in_eq_fetched w hw hlive hclip (fun t => ?_) t d
  show ((C m).win w).cut ((C m).grid.coords t) (((C m).win w).fill ((C m).grid.coords t) (fun _ => Classical.arbitrary _)
    ((((C m).win w).blk t).view.read (Elt F) (left m G c (Pipeline.arrRef (C m).spec w)))) =
      (((C m).win w).blk t).view.read (Elt F) (V m c (Pipeline.arrRef (C m).spec w))
  rw [Window.cut_fill]
  unfold left
  rw [Function.update_of_ne hne]

end Cert.Proof.PI
-- ==== Proof.PI.Obl.lean ====
/-
  The body's obligation at a grid point. `point` runs the body on the point's staging buffers: the inputs' are found and
  left as they were, the invariant moves on, and of the result's contents it says what `Out` does, whenever `Out` holds of
  what the body leaves there.
-/
module

public import proofs.«01_k».proof.Proof.PI.Data

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)

/-- A whole buffer owned at the contents it reads as. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- A grid point's coordinate is its position. -/
theorem coords_val (t : Fin grid0.N) : (grid0.coords t 0).val = t.val := by
  have h : ∀ t : Fin 60, (grid0.coords (t.cast N_0.symm) 0).val = t.val := by decide
  exact h (t.cast N_0)

/-- The scaled gradients by what the buffers read as. -/
theorem scaled_eq {c : Dev nD} (arg6 : Memref sig .tc .vmem S1536x384 .fp8e5m2) (arg7 : Memref sig .tc .vmem S1536x1 .f32)
    (f6 : Bf (F := F) c arg6) (f7 : Bf (F := F) c arg7) :
    scaled arg6 arg7 f6 f7 = k0_pay2 (arg6.view.read (Elt F) f6) (arg7.view.read (Elt F) f7) := by
  have hz : (![0, 0] : Fin 2 → Nat) = fun _ => 0 := funext fun a => by fin_cases a <;> rfl
  unfold scaled
  congr 1
  · exact View.ld_unit_zero hz _ _
  · exact View.ld_unit_zero hz _ _

/-- What `Out` must hold of: the result's buffer as the body leaves it at point `t`. -/
def Leaves (c : Dev nD) (t : Fin grid0.N) (X0 : S1536x512.Idx → Elt F .fp8e5m2) (X1 : S1x48x128.Idx → Elt F .bf16) (X2 : S384x1536.Idx → Elt F .fp8e4m3)
    (X3 : S1x1536.Idx → Elt F .bf16) (Out : (S512x384.Idx → Elt F .f32) → Prop) : Prop :=
  ∀ (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole)
    (f2 : Bf (F := F) c arg2) (f3 : Bf (F := F) c arg3) (f4 : Bf (F := F) c arg4) (f5 : Bf (F := F) c arg5)
    (fe : Bf (F := F) c (Memref.whole cc0_scratch1)) (p p' : ℕ),
    arg2.view.read (Elt F) f2 = X0 → arg3.view.read (Elt F) f3 = X1 → arg4.view.read (Elt F) f4 = X2 → arg5.view.read (Elt F) f5 = X3 →
    (Memref.whole cc0_scratch1 : Memref sig .tc _ _ _).view.read (Elt F) fe = emb m c →
    Split (ids m c) (512 * t.val) p → Split (ids m c) (512 * (t.val + 1)) p' →
    Out (arg8.view.read (Elt F) (arg8.view.writes (Elt F) arg8.view.junk
      (trips (grid0.coords t) (Memref.whole main_arg6) (V m c main_arg6) arg8 (Memref.whole cc0_scratch1) fe (p' - p) p
        [⟨tileRect, (bodyRun c (grid0.coords t) (Memref.whole main_arg6) (Memref.isWhole_whole _) arg2 harg2 arg3 harg3 arg4 harg4 arg5 harg5
          arg6 harg6 arg7 harg7 arg8 harg8 (Memref.whole cc0_scratch0) (Memref.isWhole_whole _) (Memref.whole cc0_scratch1) (Memref.isWhole_whole _)
          (Memref.whole cc0_scratch2) (Memref.isWhole_whole _) f2 f3 f4 f5).val⟩])))

theorem point (c : Dev nD) (t : Fin grid0.N) (hs : SortedIds (ids m c))
    (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole)
    (X0 : S1536x512.Idx → Elt F .fp8e5m2) (X1 : S1x48x128.Idx → Elt F .bf16) (X2 : S384x1536.Idx → Elt F .fp8e4m3)
    (X3 : S1x1536.Idx → Elt F .bf16) (X4 : S1536x384.Idx → Elt F .fp8e5m2) (X5 : S1536x1.Idx → Elt F .f32) (X6 : S512x384.Idx → Elt F .f32)
    (hemb : k0_pay2 X4 X5 = emb m c) (Out : (S512x384.Idx → Elt F .f32) → Prop) (hOut : Leaves m c t X0 X1 X2 X3 Out) (E : Set ℕ) (Q : PUnit → sProp 𝕄) :
    iprop(inv m c t.val ∗ owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5
        ∗ owns (c : Thread nD τ) arg8 fullShare X6
        ∗ (∀ X, ⌜Out X⌝ -∗ iprop(inv m c (t.val + 1) ∗ owns (c : Thread nD τ) arg2 fullShare X0 ∗ owns (c : Thread nD τ) arg3 fullShare X1
          ∗ owns (c : Thread nD τ) arg4 fullShare X2 ∗ owns (c : Thread nD τ) arg5 fullShare X3 ∗ owns (c : Thread nD τ) arg6 fullShare X4
          ∗ owns (c : Thread nD τ) arg7 fullShare X5 ∗ owns (c : Thread nD τ) arg8 fullShare X) -∗ Q ⟨⟩))
      ⊢ wp frame (wpE (defs₀ (F := F)) 𝒱₀ c none) E
          (cc0_tied_dw (grid0.coords t) (Memref.whole main_arg6) (Memref.isWhole_whole _) arg2 harg2 arg3 harg3 arg4 harg4 arg5 harg5 arg6 harg6 arg7 harg7
            arg8 harg8 (Memref.whole cc0_scratch0) (Memref.isWhole_whole _) (Memref.whole cc0_scratch1) (Memref.isWhole_whole _)
            (Memref.whole cc0_scratch2) (Memref.isWhole_whole _)) Q := by
  obtain ⟨p, hp⟩ := exists_split hs (512 * t.val)
  obtain ⟨p', hp'⟩ := exists_split hs (512 * (t.val + 1))
  rw [owns_pt c arg2 harg2, owns_pt c arg3 harg3, owns_pt c arg4 harg4, owns_pt c arg5 harg5, owns_pt c arg6 harg6, owns_pt c arg7 harg7,
    owns_pt c arg8 harg8]
  unfold inv
  iintro ⟨⟨⟨%f9, H9⟩, ⟨%f10, %hf10, H10⟩, ⟨%f11, %hf11, H11⟩, Hr, H1⟩, ⟨%f2, %h2, H2⟩, ⟨%f3, %h3, H3⟩, ⟨%f4, %h4, H4⟩, ⟨%f5, %h5, H5⟩,
    ⟨%f6, %h6, H6⟩, ⟨%f7, %h7, H7⟩, ⟨%f8, %h8, H8⟩, Hk⟩
  have hct := coords_val t
  iapply ((bodyRun c (grid0.coords t) (Memref.whole main_arg6) (Memref.isWhole_whole _) arg2 harg2 arg3 harg3 arg4 harg4 arg5 harg5
    arg6 harg6 arg7 harg7 arg8 harg8 (Memref.whole cc0_scratch0) (Memref.isWhole_whole _) (Memref.whole cc0_scratch1) (Memref.isWhole_whole _)
    (Memref.whole cc0_scratch2) (Memref.isWhole_whole _) f2 f3 f4 f5).property f6 f7 f8 f9 f10 f11 fullShare.right (V m c main_arg6) p p' hs
    (by rw [hct]; exact hp) (by rw [hct]; exact hp') (fun h => hf11 (by rw [← hct]; exact h) p hp) E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro %fe %fp %hfacts ⟨H1, H2, H3, H4, H5, H6, H7, H8, ⟨%f9', H9⟩, H10, H11⟩
  obtain ⟨hz, hn, hw⟩ := hfacts
  have hfe : (Memref.whole cc0_scratch1 : Memref sig .tc _ _ _).view.read (Elt F) fe = emb m c := by
    by_cases h : (grid0.coords t 0).val = 0
    · rw [hz h, scaled_eq, h6, h7, hemb]
    · rw [hn h]; exact hf10 (by rw [← hct]; exact h)
  iapply Hk $$ %_ %(hOut arg2 harg2 arg3 harg3 arg4 harg4 arg5 harg5 arg6 harg6 arg7 harg7 arg8 harg8 f2 f3 f4 f5 fe p p' h2 h3 h4 h5 hfe hp hp')
  isplitl [H9 H10 H11 Hr H1]
  · isplitl [H9]; · iexists f9'; iexact H9
    isplitl [H10]
    · iexists fe; isplitr; · ipureintro; exact fun _ => hfe
      iexact H10
    isplitl [H11]
    · iexists fp; isplitr
      · ipureintro; intro _ q hq
        rw [hw, split_unique hq hp']
      iexact H11
    isplitl [Hr]; · iexact Hr
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  rw [owns_pt c arg8 harg8]
  iexists _; isplitr; swap; · iexact H8
  ipureintro; rfl

/-! ## The windows at a point -/

variable (G : (c : Dev nD) → Buf (Elt F) ((c : Thread nD τ).loc main_v12))

/-- What the body finds in input `w`'s buffer holding `d` before the fetch. -/
abbrev found (c : Dev nD) (w : Fin (C m).W) (t : Fin (C m).N) (d : ((C m).win w).block.Idx → Elt F ((C m).win w).elt) :
    ((C m).win w).block.Idx → Elt F ((C m).win w).elt :=
  ((C m).win w).fill ((C m).grid.coords t) d ((((C m).win w).blk t).view.read (Elt F) (V m c (Pipeline.arrRef (C m).spec w)))

/-- The inputs' arrays are not the result's. -/
theorem arr_ne : ∀ w : Fin 7, w ≠ 6 → Pipeline.arrRef spec0 w ≠ main_v12 := by decide

theorem before_0 (c : Dev nD) (t : Fin (C m).N) (d) : (dats m G 0 c).before (0 : Fin 7) t d = found m c (0 : Fin 7) t d :=
  before_in m G c (0 : Fin 7) rfl (arr_ne 0 (by decide)) (fun _ => rfl)
    (fun t t' h => by
      show clip0_0 (grid0.coords t) = clip0_0 (grid0.coords t')
      unfold clip0_0
      exact funext fun a => congrArg (fun ix : Fin 2 → Nat => Pipeline.Clip.of (ix a) (S1536x512.size a) (S1536x30592.size a)) h) t d
theorem before_1 (c : Dev nD) (t : Fin (C m).N) (d) : (dats m G 0 c).before (1 : Fin 7) t d = found m c (1 : Fin 7) t d :=
  before_in m G c (1 : Fin 7) rfl (arr_ne 1 (by decide)) (fun _ => rfl) (fun _ _ _ => rfl) t d
theorem before_2 (c : Dev nD) (t : Fin (C m).N) (d) : (dats m G 0 c).before (2 : Fin 7) t d = found m c (2 : Fin 7) t d :=
  before_in m G c (2 : Fin 7) rfl (arr_ne 2 (by decide)) (fun _ => rfl) (fun _ _ _ => rfl) t d
theorem before_3 (c : Dev nD) (t : Fin (C m).N) (d) : (dats m G 0 c).before (3 : Fin 7) t d = found m c (3 : Fin 7) t d :=
  before_in m G c (3 : Fin 7) rfl (arr_ne 3 (by decide)) (fun _ => rfl) (fun _ _ _ => rfl) t d
theorem before_4 (c : Dev nD) (t : Fin (C m).N) (d) : (dats m G 0 c).before (4 : Fin 7) t d = found m c (4 : Fin 7) t d :=
  before_in m G c (4 : Fin 7) rfl (arr_ne 4 (by decide)) (fun _ => rfl) (fun _ _ _ => rfl) t d
theorem before_5 (c : Dev nD) (t : Fin (C m).N) (d) : (dats m G 0 c).before (5 : Fin 7) t d = found m c (5 : Fin 7) t d :=
  before_in m G c (5 : Fin 7) rfl (arr_ne 5 (by decide)) (fun _ => rfl) (fun _ _ _ => rfl) t d

/-- What the data leaves in an uncut input's buffer is what the body found there. -/
theorem after_of (c : Dev nD) (w : Fin (C m).W) (hne : Pipeline.arrRef (C m).spec w ≠ main_v12)
    (hclip : ∀ i a, ((C m).win w).clip i a = none) (t : Fin (C m).N) (d : ((C m).win w).block.Idx → Elt F ((C m).win w).elt) :
    (dats m G 0 c).after w t = found m c w t d := by
  show stg m c (fun w => left m G c (Pipeline.arrRef (C m).spec w)) w t = _
  unfold stg left found
  simp only
  rw [Function.update_of_ne hne]
  exact Pipeline.fill_of_clip_none w _ (hclip _) _ _ _

/-- What any input's leaves on the part the transfers move is what the body found there. -/
theorem cut_after (c : Dev nD) (w : Fin (C m).W) (hne : Pipeline.arrRef (C m).spec w ≠ main_v12) (t : Fin (C m).N)
    (d : ((C m).win w).block.Idx → Elt F ((C m).win w).elt) :
    ((C m).win w).fill ((C m).grid.coords t) d (((C m).win w).cut ((C m).grid.coords t) ((dats m G 0 c).after w t)) = found m c w t d := by
  show ((C m).win w).fill ((C m).grid.coords t) d (((C m).win w).cut ((C m).grid.coords t) (stg m c (fun w => left m G c (Pipeline.arrRef (C m).spec w)) w t)) = _
  unfold stg left found
  rw [Window.cut_fill]
  simp only
  rw [Function.update_of_ne hne]

/-- The embedding gradients' codes and scales are staged whole at every point. -/
theorem emb_of (c : Dev nD) (t : Fin (C m).N) (d4) (d5) :
    k0_pay2 (F := F) (found m c (4 : Fin 7) t d4) (found m c (5 : Fin 7) t d5) = emb m c := by
  unfold emb
  have h4 : found m c (4 : Fin 7) t d4 = stg m c (fun w => V m c (Pipeline.arrRef (C m).spec w)) (4 : Fin 7) (t₀ m) :=
    Pipeline.fill_of_clip_none (cfg := C m) (4 : Fin 7) _ (fun _ => rfl) _ _ _
  have h5 : found m c (5 : Fin 7) t d5 = stg m c (fun w => V m c (Pipeline.arrRef (C m).spec w)) (5 : Fin 7) (t₀ m) :=
    Pipeline.fill_of_clip_none (cfg := C m) (5 : Fin 7) _ (fun _ => rfl) _ _ _
  exact congrArg₂ k0_pay2 h4 h5

end Cert.Proof.PI
-- ==== Proof.PI.Host.lean ====
/-
  What the buffers hold when the kernel starts: the arguments as launched, and the host lines' results as functions of
  the arguments.
-/
module

public import proofs.«01_k».proof.Proof.PI.Data
public import Idealize.ShloMosaic.Lib.Pointwise
public import Idealize.ShloMosaic.Lib.StableHlo.RunRead

@[expose] public section

noncomputable section

namespace Cert.Proof.PI

open Cert.KernelIdeal Cert.KernelIdeal.Gen
open Idealize.ShloMosaic
open Idealize.ShloMosaic.TcCoe Idealize.ShloMosaic.Tactic
open Idealize.SL.Sem

variable {F : FTy → Type} [FloatOps F]

variable (m : (ℓ : Loc nD τ sig) → Buf (Elt F) ℓ)

/-- A buffer no host line writes is as launched. -/
theorem V_unwritten (c : Dev nD) (r : Ref sig .tc)
    (hr : r ∉ ([main_v0, main_v1, main_v2, main_v3, main_v4, main_v5, main_v6, main_c, main_call0_v0, main_v7, main_v8, main_v9, main_v10, main_v11] : List (Ref sig .tc))) :
    V m c r = m ((c.tc : Thread nD τ).loc r) :=
  StableHlo.after_unwritten (ops := List.flatten [hostOps0 (F := F), hostOps0_1, hostOps0_2]) [main_v0, main_v1, main_v2, main_v3, main_v4, main_v5, main_v6, main_c, main_call0_v0, main_v7, main_v8, main_v9, main_v10, main_v11] rfl hr _

/-- The table the loop reads is the ids argument. -/
theorem ids_eq (c : Dev nD) (q : Fin 1536) : ids m c q = m ((c.tc : Thread nD τ).loc main_arg6) (ix1 q) := by
  rw [← V_unwritten m c main_arg6 (by decide)]
  unfold ids idAt
  show V m c main_arg6 _ = _
  congr 1
  funext a
  fin_cases a
  apply Fin.ext
  rfl

/-- Window 0's array: the logit gradients' codes, one row per token. -/
theorem V_v0 (c : Dev nD) : (V m c main_v0 : FVec F S1536x30592 .fp8e5m2)
    = shapeCast S1536x30592 (m ((c.tc : Thread nD τ).loc main_arg0) : FVec F S6x256x30592 .fp8e5m2) shapeCasts_S6x256x30592_S1536x30592 := by
  show StableHlo.after _ _ (Proc.devRef .tc main_v0) = _
  rfl

/-- Window 2's array: the activations' codes transposed. -/
theorem V_v2 (c : Dev nD) : (V m c main_v2 : FVec F S384x1536 .fp8e4m3)
    = transpose S384x1536 [1, 0] (shapeCast S1536x384 (m ((c.tc : Thread nD τ).loc main_arg2) : FVec F S6x256x384 .fp8e4m3) shapeCasts_S6x256x384_S1536x384) transposes_S1536x384_S384x1536_1_0 := by
  show StableHlo.after _ _ (Proc.devRef .tc main_v2) = _
  after_results
  rfl

/-- Window 3's array: the activations' scales as one row. -/
theorem V_v4 (c : Dev nD) : (V m c main_v4 : FVec F S1x1536 .bf16)
    = truncf .bf16 (shapeCast S1x1536 (m ((c.tc : Thread nD τ).loc main_arg3) : FVec F S6x256 .f32) shapeCasts_S6x256_S1x1536) bitsLt_bf16_f32 := by
  show StableHlo.after _ _ (Proc.devRef .tc main_v4) = _
  rfl

/-- Window 1's array: the logit gradients' scales, a block of 48 rows by 128 lanes per tile. -/
theorem V_v10 (c : Dev nD) : (V m c main_v10 : FVec F S60x48x128 .bf16)
    = shapeCast S60x48x128 (transpose S60x3x16x32x4 [3, 0, 2, 1, 4] (shapeCast S3x32x16x60x4
        (pad S1536x240 ![0, 0] ![0, 1] ![0, 0] (truncf .bf16 (shapeCast S1536x239 (m ((c.tc : Thread nD τ).loc main_arg1) : FVec F S6x256x239 .f32) shapeCasts_S6x256x239_S1536x239) bitsLt_bf16_f32)
          (sitofp .bf16 (constantI S_ 32 0#32)) pads_S1536x239_S1536x240_000_010)
        shapeCasts_S1536x240_S3x32x16x60x4) transposes_S3x32x16x60x4_S60x3x16x32x4_3_0_2_1_4) shapeCasts_S60x3x16x32x4_S60x48x128 := by
  show StableHlo.after _ _ (Proc.devRef .tc main_v10) = _
  after_results
  rfl

/-- Window 5's array: the embedding gradients' scales as one column. -/
theorem V_v11 (c : Dev nD) : (V m c main_v11 : FVec F S1536x1 .f32)
    = shapeCast S1536x1 (m ((c.tc : Thread nD τ).loc main_arg5) : FVec F S1536 .f32) shapeCasts_S1536_S1536x1 := by
  show StableHlo.after _ _ (Proc.devRef .tc main_v11) = _
  rfl

end Cert.Proof.PI
-- ==== Proof.PI.Frame.lean ====
/-
  The frame of the kernel: with sorted, nonnegative ids it runs to its end, its arguments unchanged and every counter at
  zero. Of the result nothing is said here.
-/
module

public import proofs.«01_k».proof.Proof.PI.Obl
public import proofs.«01_k».proof.Proof.PI.Host

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)
variable (G : (c : Dev nD) → Buf (Elt F) ((c : Thread nD τ).loc main_v12))

/-- The windows whose staging buffer nothing is said of: the result's. -/
def fgt : Fin 7 → Bool := fun | 0 => false | 1 => false | 2 => false | 3 => false | 4 => false | 5 => false | 6 => true

theorem owns_congr (c : Dev nD) {sp : Space} {S : Shape} {e : EltTy} (M : Memref sig .tc sp S e) {X Y : S.Idx → Elt F e} (h : X = Y) :
    (owns (c : Thread nD τ) M fullShare X : sProp 𝕄) ⊢ owns (c : Thread nD τ) M fullShare Y := by rw [h]

theorem body_forget (hs : ∀ c, SortedIds (ids m c)) (c : Dev nD) :
    BodyObligationLoose (dats m G 0 c) (defs₀ (F := F)) 𝒱₀ () Set.univ fgt := fun t => by
  rw [bigSep_W0, bigSep_W0]
  simp only [fgt]
  rw [show (dats m G 0 c).Φ t.succ = inv m c (t.val + 1) from rfl, show (dats m G 0 c).Φ t.castSucc = inv m c t.val from rfl,
    show (dats m G 0 c).owesAt () t.succ = (dats m G 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩⟩
  rw [before_0, before_1, before_2, before_3, before_4, before_5]
  sl_whnfR [defs₀, Defs.onTc]
  iapply (point m c t (hs c) _ _ _ _ _ _ _ _ _ _ _ _ _ _ (found m c (0 : Fin 7) t d0) (found m c (1 : Fin 7) t d1) (found m c (2 : Fin 7) t d2)
    (found m c (3 : Fin 7) t d3) (found m c (4 : Fin 7) t d4) (found m c (5 : Fin 7) t d5) X6 (emb_of m c t d4 d5) (fun _ => True)
    (fun _ _ _ _ _ _ _ _ _ _ _ _ _ _ _ _ _ _ _ _ _ _ _ _ _ _ _ _ => trivial) Set.univ _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %X %_ ⟨HΦ, H0, H1, H2, H3, H4, H5, H6⟩
  isplitl [HΦ]; · iexact HΦ
  isplitl [Ho]; · iexact Ho
  isplitl [H0]
  · iexists d0
    iapply (owns_congr c _ (cut_after m G c (0 : Fin 7) (arr_ne 0 (by decide)) t d0).symm)
    iexact H0
  isplitl [H1]
  · iapply (owns_congr c _ (after_of m G c (1 : Fin 7) (arr_ne 1 (by decide)) (fun _ _ => rfl) t d1).symm)
    iexact H1
  isplitl [H2]
  · iapply (owns_congr c _ (after_of m G c (2 : Fin 7) (arr_ne 2 (by decide)) (fun _ _ => rfl) t d2).symm)
    iexact H2
  isplitl [H3]
  · iapply (owns_congr c _ (after_of m G c (3 : Fin 7) (arr_ne 3 (by decide)) (fun _ _ => rfl) t d3).symm)
    iexact H3
  isplitl [H4]
  · iapply (owns_congr c _ (after_of m G c (4 : Fin 7) (arr_ne 4 (by decide)) (fun _ _ => rfl) t d4).symm)
    iexact H4
  isplitl [H5]
  · iapply (owns_congr c _ (after_of m G c (5 : Fin 7) (arr_ne 5 (by decide)) (fun _ _ => rfl) t d5).symm)
    iexact H5
  iexists X; iexact H6

/-! ## The launch -/

theorem hmain : Pipeline.HMainP (Ix := Unit) (Name := ℕ) (U := UR nD τ) (Lvl := ℕ) (pcfgs (F := F)) 0 (defs₀ (F := F)) 𝒱₀ m (main (F := F)) (V m) :=
  Pipeline.hmainP_prefixes (pcfgs (F := F)) 0 defs₀ 𝒱₀ m main [hostOps0, hostOps0_1, hostOps0_2]
    (by simp only [List.Forall]; exact ⟨hostOps0_sub, hostOps0_1_sub, hostOps0_2_sub⟩)
    (by simp only [List.Forall]; repeat' constructor) (fun c => main_chain c)

theorem hpf (c : Dev nD) (k : Fin 1) : V m c (pre0.ref k) = (tab m 0).1 k := by
  obtain rfl : c = 0 := Subsingleton.elim _ _
  rfl

theorem hin (c : Dev nD) : iprop(Pipeline.ΦA (Val := Elt F) (U := UR nD τ) (C m).spec c ∗ Pipeline.ΦT (U := UR nD τ) pre0 (tab m 0).1 c) ⊢ (inv m c 0 : sProp 𝕄) := by
  unfold Pipeline.ΦA inv
  rw [show (Pipeline.scopedRest (C m).spec c : sProp 𝕄) = _ from scopedRest0_eq c]
  unfold Pipeline.ΦT Pipeline.prefHeld
  rw [show (Finset.univ : Finset (Fin pre0.K)) = {0} from rfl, bigSep_singleton, ← hpf m c 0]
  iintro ⟨⟨⟨⟨%f, H9⟩, ⟨%fe, H10⟩, ⟨%fp, H11⟩⟩, Hr⟩, H1⟩
  isplitl [H9]; · iexists f; iexact H9
  isplitl [H10]
  · iexists fe; isplitr; · ipureintro; exact fun h => absurd rfl h
    iexact H10
  isplitl [H11]
  · iexists fp; isplitr; · ipureintro; exact fun h => absurd rfl h
    iexact H11
  isplitl [Hr]; · iexact Hr
  iexact H1

theorem hout (c : Dev nD) (n : ℕ) : (inv m c n : sProp 𝕄) ⊢ Pipeline.ΦA (Val := Elt F) (U := UR nD τ) (C m).spec c := by
  unfold Pipeline.ΦA inv
  rw [show (Pipeline.scopedRest (C m).spec c : sProp 𝕄) = _ from scopedRest0_eq c]
  iintro ⟨⟨%f, H9⟩, ⟨%fe, -, H10⟩, ⟨%fp, -, H11⟩, Hr, -⟩
  isplitl [H9 H10 H11]
  · isplitl [H9]; · iexists f; iexact H9
    isplitl [H10]; · iexists fe; iexact H10
    iexists fp; iexact H11
  iexact Hr

theorem run_forget (ρ : Dev nD → PrngReg) (hs : ∀ c, SortedIds (ids m c)) :
    θ_run defs (onTc (τ := τ) (main (F := F))) ⟨m, fun _ => 0, ρ⟩
      (fun r => Pipeline.RDat.FramePost (C m) (fun c => (dats m G 0 c).toRForget fgt) (V m) r ∧ r.2.sem = fun _ => 0) :=
  Pipeline.θ_run_frameP_track_forget (pcfgs (F := F)) (tab m) (dats m G) 0 launch0 defs₀ 𝒱₀ fgt m ρ main
    (hbody := body_forget m G hs) (hshare := fun c => (dats m G 0 c).share_full fun _ => rfl) (howed := fun _ _ => rfl)
    (V := V m) (hmain := hmain m) (hA := fun _ _ => rfl) (hpf := hpf m) (hin := hin m) (hout := fun c => hout m c _)
    (Q' := fun r => Pipeline.RDat.FramePost (C m) (fun c => (dats m G 0 c).toRForget fgt) (V m) r ∧ r.2.sem = fun _ => 0)
    (hQ' := fun _ h => h)

/-- From sorted ids the program returns, leaves its arguments as they were, and every semaphore at zero. -/
theorem frame (ρ : Dev nD → PrngReg) (hs : ∀ c : Dev nD, SortedIds (fun q => m ((c.tc : Thread nD τ).loc main_arg6) (ix1 q))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have hs' : ∀ c, SortedIds (ids m c) := fun c => by
    rw [show ids m c = fun q => m ((c.tc : Thread nD τ).loc main_arg6) (ix1 q) from funext (ids_eq m c)]
    exact hs c
  refine (θ_run defs _ _).mono (fun r h => ⟨fun c => ⟨?_, ?_, ?_, ?_, ?_, ?_, ?_⟩, h.2⟩) (run_forget m (fun c => V m c main_v12) ρ hs')
  · exact ((h.1 c).2 main_arg0 (Pipeline.mem_restRefs_of main_arg0 (by decide) (by exact (by decide : ∀ w, Pipeline.arrRef spec0 w ≠ main_arg0)))).trans (V_unwritten m c main_arg0 (by decide))
  · exact ((h.1 c).2 main_arg1 (Pipeline.mem_restRefs_of main_arg1 (by decide) (by exact (by decide : ∀ w, Pipeline.arrRef spec0 w ≠ main_arg1)))).trans (V_unwritten m c main_arg1 (by decide))
  · exact ((h.1 c).2 main_arg2 (Pipeline.mem_restRefs_of main_arg2 (by decide) (by exact (by decide : ∀ w, Pipeline.arrRef spec0 w ≠ main_arg2)))).trans (V_unwritten m c main_arg2 (by decide))
  · exact ((h.1 c).2 main_arg3 (Pipeline.mem_restRefs_of main_arg3 (by decide) (by exact (by decide : ∀ w, Pipeline.arrRef spec0 w ≠ main_arg3)))).trans (V_unwritten m c main_arg3 (by decide))
  · exact (h.1.arr_in c 4 rfl).trans (V_unwritten m c main_arg4 (by decide))
  · exact ((h.1 c).2 main_arg5 (Pipeline.mem_restRefs_of main_arg5 (by decide) (by exact (by decide : ∀ w, Pipeline.arrRef spec0 w ≠ main_arg5)))).trans (V_unwritten m c main_arg5 (by decide))
  · exact ((h.1 c).2 main_arg6 (Pipeline.mem_restRefs_of main_arg6 (by decide) (by exact (by decide : ∀ w, Pipeline.arrRef spec0 w ≠ main_arg6)))).trans (V_unwritten m c main_arg6 (by decide))

end Cert.Proof.PI
-- ==== Proof.Spec.lean ====
/-
  The weight gradient of the tied embedding over the extended reals, element by element.
-/
module

public import Idealize.ShloMosaic.Lib.Pointwise

@[expose] public section

noncomputable section

namespace Cert.Proof

open Idealize.ShloMosaic

/-- Row `v`, column `d` of the gradient: the head's sum over the tokens of scaled logit gradient times scaled activation,
    plus the scaled embedding gradients of the positions whose id is `v`. -/
def dw (a0 : (⟨3, ![6, 256, 30592]⟩ : Shape).Idx → EReal) (a1 : (⟨3, ![6, 256, 239]⟩ : Shape).Idx → EReal)
    (a2 : (⟨3, ![6, 256, 384]⟩ : Shape).Idx → EReal) (a3 : (⟨2, ![6, 256]⟩ : Shape).Idx → EReal)
    (a4 : (⟨2, ![1536, 384]⟩ : Shape).Idx → EReal) (a5 : (⟨1, ![1536]⟩ : Shape).Idx → EReal)
    (ids : Fin 1536 → BitVec 32) (v : Fin 30592) (d : Fin 384) : EReal :=
  (∑ b : Fin 6, ∑ s : Fin 256,
      (a0 (ix3 b s v) * a1 (ix3 b s ⟨v.val / 128, by omega⟩)) * (a2 (ix3 b s d) * a3 (ix2 b s)))
    + ∑ q : Fin 1536, if (ids q).toInt = (v.val : ℤ) then a4 (ix2 q d) * a5 (ix1 q) else 0

end Cert.Proof

end
-- ==== Proof.PI.Pieces.lean ====
/-
  The scaled logit gradients as the body stores them: 384 pieces of 16 rows by 128 columns, each a block of the codes times
  one column of the scales. All pieces are one term in the piece's number.
-/
module

public import proofs.«01_k».proof.Proof.PI.Run

@[expose] public section

set_option maxRecDepth 65536

noncomputable section

namespace Cert.Proof.PI

open Cert.KernelIdeal Cert.KernelIdeal.Gen
open Idealize.ShloMosaic
open Idealize.ShloMosaic.TcCoe

variable {F : FTy → Type} [FloatOps F]

theorem piece_inb (n : ℕ) : ∀ a, (![16 * min (n / 4) 95, 128 * (n % 4)] : Fin 2 → Nat) a + S16x128.size a ≤ S1536x512.size a := by
  intro a
  fin_cases a
  · show 16 * min (n / 4) 95 + 16 ≤ 1536; omega
  · show 128 * (n % 4) + 128 ≤ 512; omega

theorem rows_inb (n : ℕ) : ∀ a, (![16 * min (n / 4) 95, 0] : Fin 2 → Nat) a + S16x512.size a ≤ S1536x512.size a := by
  intro a
  fin_cases a
  · show 16 * min (n / 4) 95 + 16 ≤ 1536; omega
  · show 0 + 512 ≤ 512; omega

theorem scale_inb (n : ℕ) : ∀ a, (![0, 16 * (min (n / 4) 95 / 32), 4 * (min (n / 4) 95 % 32) + n % 4] : Fin 3 → Nat) a + S1x16x1.size a ≤ S1x48x128.size a := by
  intro a
  fin_cases a
  · show 0 + 1 ≤ 1; omega
  · show 16 * (min (n / 4) 95 / 32) + 16 ≤ 48; omega
  · show 4 * (min (n / 4) 95 % 32) + n % 4 + 1 ≤ 128; omega

theorem cols_slice (n : ℕ) : S16x512.Slices ![0, 128 * (n % 4)] S16x128 := by
  refine ⟨rfl, fun a => ?_⟩
  fin_cases a
  · show 0 + 16 ≤ 16; omega
  · show 128 * (n % 4) + 128 ≤ 512; omega

/-- Piece `n`: rows `16 (n / 4)` on, columns `128 (n % 4)` on. -/
def pieceAt (c : Dev nD) (arg2 : Memref sig .tc .vmem S1536x512 .fp8e5m2) (arg3 : Memref sig .tc .vmem S1x48x128 .bf16)
    (f2 : Bf (F := F) c arg2) (f3 : Bf (F := F) c arg3) (n : ℕ) : View.Piece (Elt F) S1536x512 .bf16 :=
  ⟨Rect.unit (s := S1536x512) ![16 * min (n / 4) 95, 128 * (n % 4)] S16x128.size (piece_inb n),
    (shapeCast S16x128 (mulf (extractStridedSlice S16x128 ![0, 128 * (n % 4)]
        (extf .bf16 (shapeCast S16x512 (arg2.view.readAt (Elt F) (Rect.unit (s := S1536x512) ![16 * min (n / 4) 95, 0] S16x512.size (rows_inb n)).toLoadRect f2 : FVec F S16x512 .fp8e5m2)
          shapeCasts_S16x512_S16x512) bitsLt_fp8e5m2_bf16) (cols_slice n))
      (broadcastTo S16x128 (shapeCast S16x1 (arg3.view.readAt (Elt F) (Rect.unit (s := S1x48x128)
        ![0, 16 * (min (n / 4) 95 / 32), 4 * (min (n / 4) 95 % 32) + n % 4] S1x16x1.size (scale_inb n)).toLoadRect f3 : FVec F S1x16x1 .bf16)
        shapeCasts_S1x16x1_S16x1) broadcasts_S16x1_S16x128)) shapeCasts_S16x128_S16x128 : FVec F S16x128 .bf16)⟩

/-- The first `n` pieces, the latest first. -/
def pieces (c : Dev nD) (arg2 : Memref sig .tc .vmem S1536x512 .fp8e5m2) (arg3 : Memref sig .tc .vmem S1x48x128 .bf16)
    (f2 : Bf (F := F) c arg2) (f3 : Bf (F := F) c arg3) : ℕ → List (View.Piece (Elt F) S1536x512 .bf16)
  | 0 => []
  | n + 1 => pieceAt c arg2 arg3 f2 f3 n :: pieces c arg2 arg3 f2 f3 n

/-- The body stores these pieces. -/
theorem stores_eq (c : Dev nD) (arg2 : Memref sig .tc .vmem S1536x512 .fp8e5m2) (arg3 : Memref sig .tc .vmem S1x48x128 .bf16)
    (f2 : Bf (F := F) c arg2) (f3 : Bf (F := F) c arg3) :
    bodyRun.sl.H9_384 c arg2 arg3 f2 f3 = pieces c arg2 arg3 f2 f3 384 := rfl

end Cert.Proof.PI

end
-- ==== Proof.PI.Tile.lean ====
/-
  The result tile before the loop, over the extended reals: the sum over the tokens of scaled logit gradient times scaled
  activation.
-/
module

public import proofs.«01_k».proof.Proof.PI.Pieces
public import Idealize.ShloMosaic.Lib.Pointwise
public import Idealize.ShloMosaic.Lib.Pipeline.ValueKit

@[expose] public section

set_option maxRecDepth 16384

noncomputable section

namespace Cert.Proof.PI

open Cert.KernelIdeal Cert.KernelIdeal.Gen
open Idealize.ShloMosaic
open Idealize.ShloMosaic.TcCoe

/-- The scaled logit gradients of a staged block. -/
def gsc (X0 : FVec Ideal S1536x512 .fp8e5m2) (X1 : FVec Ideal S1x48x128 .bf16) (n : Fin 1536) (r : Fin 512) : EReal :=
  X0 (ix2 n r) * X1 (ix3 (0 : Fin 1) ⟨16 * (n.val / 512) + n.val % 16, by omega⟩ ⟨4 * (n.val / 16 % 32) + r.val / 128, by omega⟩)

section
variable (c : Dev nD) (arg2 : Memref sig .tc .vmem S1536x512 .fp8e5m2) (arg3 : Memref sig .tc .vmem S1x48x128 .bf16)
  (f2 : Bf (F := Ideal) c arg2) (f3 : Bf (F := Ideal) c arg3)

/-- Every piece is the block of the scaled gradients its rectangle names. -/
theorem piece_value (n : ℕ) (hn : n < 384) (x : (pieceAt c arg2 arg3 f2 f3 n).1.shape.Idx) :
    (pieceAt c arg2 arg3 f2 f3 n).2 x
      = (fun y : S1536x512.Idx => (gsc (arg2.view.read (Elt Ideal) f2) (arg3.view.read (Elt Ideal) f3) (y 0) (y 1) : EReal)) ((pieceAt c arg2 arg3 f2 f3 n).1.emb x) := by
  obtain ⟨a, b, rfl⟩ : ∃ (a : Fin 16) (b : Fin 128), x = ix2 a b := ⟨x 0, x 1, eq_ix2 x⟩
  unfold pieceAt
  simp only [View.readAt_eq_ld]
  generalize arg2.view.read (Elt Ideal) f2 = X0
  generalize arg3.view.read (Elt Ideal) f3 = X1
  have he : (Rect.unit (s := S1536x512) ![16 * min (n / 4) 95, 128 * (n % 4)] S16x128.size (piece_inb n)).emb (ix2 a b)
      = ix2 (⟨16 * min (n / 4) 95 + a.val, by omega⟩ : Fin 1536) (⟨128 * (n % 4) + b.val, by omega⟩ : Fin 512) := by
    funext k
    apply Fin.ext
    fin_cases k
    · show 16 * min (n / 4) 95 + 1 * a.val = 16 * min (n / 4) 95 + a.val
      omega
    · show 128 * (n % 4) + 1 * b.val = 128 * (n % 4) + b.val
      omega
  rw [he]
  unfold gsc
  pointwise
  refine Ideal.mul_congr rfl (congrArg X1 ?_)
  congr 1 <;> apply Fin.ext <;> simp only [] <;> omega

theorem mem_pieces (n : ℕ) (p) (hp : p ∈ pieces c arg2 arg3 f2 f3 n) : ∃ j < n, p = pieceAt c arg2 arg3 f2 f3 j := by
  induction n with
  | zero => simp [pieces] at hp
  | succ n ih =>
    rw [pieces, List.mem_cons] at hp
    rcases hp with rfl | hp
    · exact ⟨n, Nat.lt_succ_self n, rfl⟩
    · obtain ⟨j, hj, e⟩ := ih hp
      exact ⟨j, hj.trans (Nat.lt_succ_self n), e⟩

theorem pieces_mem (n j : ℕ) (hj : j < n) : pieceAt c arg2 arg3 f2 f3 j ∈ pieces c arg2 arg3 f2 f3 n := by
  induction n with
  | zero => omega
  | succ n ih =>
    rw [pieces, List.mem_cons]
    rcases Nat.lt_succ_iff_lt_or_eq.1 hj with h | rfl
    · exact Or.inr (ih h)
    · exact Or.inl rfl

/-- The pieces together are the scaled gradients. -/
theorem canon_pieces (n : Fin 1536) (r : Fin 512) :
    View.canon (pieces c arg2 arg3 f2 f3 384) (ix2 n r) = gsc (arg2.view.read (Elt Ideal) f2) (arg3.view.read (Elt Ideal) f3) n r := by
  refine View.canon_apply_of_pieces (Val := Elt Ideal) (e := .bf16) (fun y : S1536x512.Idx => gsc (arg2.view.read (Elt Ideal) f2) (arg3.view.read (Elt Ideal) f3) (y 0) (y 1))
    _ (fun p hp x => ?_) _ ?_
  · obtain ⟨j, hj, rfl⟩ := mem_pieces c arg2 arg3 f2 f3 _ p hp
    exact piece_value c arg2 arg3 f2 f3 j hj x
  · refine ⟨_, pieces_mem c arg2 arg3 f2 f3 384 (4 * (n.val / 16) + r.val / 128) (by omega), ?_⟩
    unfold pieceAt
    rw [Rect.mem_set_unit]
    intro a
    fin_cases a
    · show 16 * min ((4 * (n.val / 16) + r.val / 128) / 4) 95 ≤ n.val ∧ n.val < 16 * min ((4 * (n.val / 16) + r.val / 128) / 4) 95 + 16
      omega
    · show 128 * ((4 * (n.val / 16) + r.val / 128) % 4) ≤ r.val ∧ r.val < 128 * ((4 * (n.val / 16) + r.val / 128) % 4) + 128
      omega
end

/-- The product of the scaled gradients and the scaled activations, at an element. -/
theorem pay_value (X2 : FVec Ideal S384x1536 .fp8e4m3) (X3 : FVec Ideal S1x1536 .bf16) (b : FVec Ideal S1536x512 .bf16) (r : Fin 512) (d : Fin 384) :
    (k0_pay547 (F := Ideal) X2 X3 b (ix2 r d) : EReal) = ∑ n : Fin 1536, ((X2 (ix2 d n) : EReal) * (X3 (ix2 (0 : Fin 1) n) : EReal)) * (b (ix2 n r) : EReal) := by
  pointwise [k0_pay547]

/-- What the body stores over the whole tile. -/
theorem tile_value (c : Dev nD) (i : grid0.Coords)
    (arg1 : Memref sig .tc .smem S1536 .i32) (harg1 : arg1.IsWhole)
    (arg2 : Memref sig .tc .vmem S1536x512 .fp8e5m2) (harg2 : arg2.IsWhole) (arg3 : Memref sig .tc .vmem S1x48x128 .bf16) (harg3 : arg3.IsWhole)
    (arg4 : Memref sig .tc .vmem S384x1536 .fp8e4m3) (harg4 : arg4.IsWhole) (arg5 : Memref sig .tc .vmem S1x1536 .bf16) (harg5 : arg5.IsWhole)
    (arg6 : Memref sig .tc .vmem S1536x384 .fp8e5m2) (harg6 : arg6.IsWhole) (arg7 : Memref sig .tc .vmem S1536x1 .f32) (harg7 : arg7.IsWhole)
    (arg8 : Memref sig .tc .vmem S512x384 .f32) (harg8 : arg8.IsWhole) (arg9 : Memref sig .tc .vmem S1536x512 .bf16) (harg9 : arg9.IsWhole)
    (arg10 : Memref sig .tc .vmem S1536x384 .f32) (harg10 : arg10.IsWhole) (arg11 : Memref sig .tc .smem S1 .i32) (harg11 : arg11.IsWhole)
    (f2 : Bf (F := Ideal) c arg2) (f3 : Bf (F := Ideal) c arg3) (f4 : Bf (F := Ideal) c arg4) (f5 : Bf (F := Ideal) c arg5) (r : Fin 512) (d : Fin 384) :
    (bodyRun c i arg1 harg1 arg2 harg2 arg3 harg3 arg4 harg4 arg5 harg5 arg6 harg6 arg7 harg7 arg8 harg8 arg9 harg9 arg10 harg10 arg11 harg11 f2 f3 f4 f5).val (ix2 r d)
      = ∑ n : Fin 1536, ((arg4.view.read (Elt Ideal) f4 (ix2 d n) : EReal) * (arg5.view.read (Elt Ideal) f5 (ix2 (0 : Fin 1) n) : EReal))
          * gsc (arg2.view.read (Elt Ideal) f2) (arg3.view.read (Elt Ideal) f3) n r := by
  show bodyRun.sl.r_163 c arg2 arg3 arg4 arg5 arg9 f2 f3 f4 f5 (ix2 r d) = _
  unfold bodyRun.sl.r_163 bodyRun.sl.v3370
  have hz : (![0, 0] : Fin 2 → Nat) = fun _ => 0 := funext fun a => by fin_cases a <;> rfl
  refine (pay_value _ _ _ r d).trans (Finset.sum_congr rfl fun n _ => ?_)
  rw [stores_eq, View.readCov_eq_canon']
  refine congrArg₂ (· * ·) (congrArg₂ (· * ·) ?_ ?_) ?_
  · exact congrFun (View.ld_unit_zero hz _ _) _
  · exact congrFun (View.ld_unit_zero hz _ _) _
  · refine Eq.trans (congrArg _ ?_) (canon_pieces c arg2 arg3 f2 f3 n r)
    funext a
    apply Fin.ext
    fin_cases a
    · show 0 + 1 * n.val = n.val; omega
    · show 0 + 1 * r.val = r.val; omega

end Cert.Proof.PI

end
-- ==== Proof.PI.TripsValue.lean ====
/-
  The loop's row writes, over the extended reals: after them, an element of the result tile is what it was plus the scaled
  embedding gradients of the rows whose ids name its row.
-/
module

public import proofs.«01_k».proof.Proof.PI.While
public import Idealize.ShloMosaic.Lib.Pointwise
public import Idealize.ShloMosaic.Lib.Pipeline.ValueKit

@[expose] public section

set_option maxRecDepth 16384

noncomputable section

namespace Cert.Proof.PI

open Cert.KernelIdeal Cert.KernelIdeal.Gen
open Idealize.ShloMosaic
open Idealize.ShloMosaic.TcCoe

/-- What position `q` of the ids adds to element `(r, d)` of tile `i`: row `q` of `E` if its id names that row, else
    nothing. -/
def rowTerm (ids : Fin 1536 → BitVec 32) (E : FVec Ideal S1536x384 .f32) (i : ℕ) (r : Fin 512) (d : Fin 384) (q : ℕ) : EReal :=
  if h : q < 1536 then if (ids ⟨q, h⟩).toInt = ((512 * i + r.val : ℕ) : ℤ) then E (ix2 ⟨q, h⟩ d) else 0 else 0

section
variable {c : Dev nD} (i : grid0.Coords) (arg1 : Memref sig .tc .smem S1536 .i32) (ft : Bf (F := Ideal) c arg1)
  (arg8 : Memref sig .tc .vmem S512x384 .f32) (arg10 : Memref sig .tc .vmem S1536x384 .f32) (fe : Bf (F := Ideal) c arg10)

/-- One row write adds its position's term. -/
theorem trip_value (p : ℕ) (hp : p < 1536) (hlo : ((512 * (i 0).val : ℕ) : ℤ) ≤ (idAt arg1 ft ⟨p, hp⟩).toInt)
    (hhi : (idAt arg1 ft ⟨p, hp⟩).toInt < ((512 * ((i 0).val + 1) : ℕ) : ℤ)) (h3 : k0_chk3 i (idAt arg1 ft ⟨p, hp⟩)) (h2 : k0_chk2 (BitVec.ofNat 32 p))
    (L : List (View.Piece (Elt Ideal) S512x384 .f32)) (r : Fin 512) (d : Fin 384) :
    (View.canon ((⟨Rect.unit (s := S512x384) (k0_off3 i (idAt arg1 ft ⟨p, hp⟩)) S1x384.size (k0_off3_inb i _ h3),
              k0_pay1 (arg8.view.readCov L (Rect.unit (s := S512x384) (k0_off3 i (idAt arg1 ft ⟨p, hp⟩)) S1x384.size (k0_off3_inb i _ h3)).toLoadRect)
                (arg10.view.readAt (Elt Ideal) (Rect.unit (s := S1536x384) (k0_off4 (BitVec.ofNat 32 p)) S1x384.size (k0_off4_inb _ h2)).toLoadRect fe)⟩ : View.Piece (Elt Ideal) S512x384 .f32) :: L) (ix2 r d) : EReal)
      = (View.canon L (ix2 r d) : EReal) + rowTerm (idAt arg1 ft) (arg10.view.read (Elt Ideal) fe) (i 0).val r d p := by
  obtain ⟨hrow, hl, hh⟩ := row_toNat _ _ (coord_lt i) hlo hhi
  have hint : (idAt arg1 ft ⟨p, hp⟩).toInt = ((idAt arg1 ft ⟨p, hp⟩).toNat : ℤ) := by
    rw [BitVec.toInt_eq_toNat_cond, if_pos (by have := coord_lt i; omega)]
  have hoff : k0_off3 i (idAt arg1 ft ⟨p, hp⟩) = ![(idAt arg1 ft ⟨p, hp⟩).toNat - 512 * (i 0).val, 0] := by
    show ![(Scalar.indexCast (Scalar.subi _ (Scalar.muli (BitVec.ofNat 32 (i 0).val) 512#32))).toNat, 0] = _
    rw [hrow]
  have hoff4 : k0_off4 (BitVec.ofNat 32 p) = ![p, 0] := by
    show ![(Scalar.indexCast (BitVec.ofNat 32 p)).toNat, 0] = _
    rw [counter_toNat p (by omega)]
  generalize hw : (idAt arg1 ft ⟨p, hp⟩).toNat - 512 * (i 0).val = w at hoff
  unfold rowTerm
  rw [dif_pos hp, hint]
  by_cases hr : r.val = w
  · rw [if_pos (by exact_mod_cast (by omega : (idAt arg1 ft ⟨p, hp⟩).toNat = 512 * (i 0).val + r.val))]
    have he : (ix2 r d : S512x384.Idx) = (Rect.unit (s := S512x384) (k0_off3 i (idAt arg1 ft ⟨p, hp⟩)) S1x384.size (k0_off3_inb i _ h3)).emb (ix2 (0 : Fin 1) d) := by
      funext a
      apply Fin.ext
      fin_cases a
      · show r.val = k0_off3 i (idAt arg1 ft ⟨p, hp⟩) 0 + 1 * 0
        rw [hoff]; show r.val = w + 1 * 0; omega
      · show d.val = k0_off3 i (idAt arg1 ft ⟨p, hp⟩) 1 + 1 * d.val
        rw [hoff]; show d.val = 0 + 1 * d.val; omega
    conv_lhs => rw [he]
    rw [View.canon_cons_emb]
    show ((k0_pay1 (F := Ideal) _ _ (ix2 (0 : Fin 1) d) : EReal)) = _
    unfold k0_pay1
    rw [View.readCov_eq_canon', View.readAt_eq_ld]
    refine (show _ = ((_ : EReal) + (_ : EReal)) from rfl).trans (congrArg₂ (· + ·) ?_ ?_)
    · refine (congrFun (shapeCast_self _ _) _).trans ?_
      exact congrArg _ he.symm
    · show arg10.view.read (Elt Ideal) fe _ = _
      congr 1
      funext a
      apply Fin.ext
      fin_cases a
      · show k0_off4 (BitVec.ofNat 32 p) 0 + 1 * 0 = p
        rw [hoff4]; show p + 1 * 0 = p; omega
      · show k0_off4 (BitVec.ofNat 32 p) 1 + 1 * d.val = d.val
        rw [hoff4]; show 0 + 1 * d.val = d.val; omega
  · rw [if_neg (fun h => hr (by have : (idAt arg1 ft ⟨p, hp⟩).toNat = 512 * (i 0).val + r.val := by exact_mod_cast h
                                omega)), add_zero]
    refine View.canon_cons_of_not_mem _ _ ?_
    show (ix2 r d : S512x384.Idx) ∉ (Rect.unit (s := S512x384) (k0_off3 i (idAt arg1 ft ⟨p, hp⟩)) S1x384.size (k0_off3_inb i _ h3)).set
    rw [Rect.mem_set_unit]
    intro h
    have := h 0
    rw [hoff] at this
    have h' : w ≤ r.val ∧ r.val < w + 1 := this
    omega

/-- All the trips together. -/
theorem trips_value (r : Fin 512) (d : Fin 384) : ∀ (k p : ℕ) (L : List (View.Piece (Elt Ideal) S512x384 .f32)), p + k ≤ 1536 →
    (∀ q : Fin 1536, p ≤ q.val → q.val < p + k → ((512 * (i 0).val : ℕ) : ℤ) ≤ (idAt arg1 ft q).toInt
      ∧ (idAt arg1 ft q).toInt < ((512 * ((i 0).val + 1) : ℕ) : ℤ)) →
    (View.canon (trips i arg1 ft arg8 arg10 fe k p L) (ix2 r d) : EReal)
      = (View.canon L (ix2 r d) : EReal) + ∑ j ∈ Finset.range k, rowTerm (idAt arg1 ft) (arg10.view.read (Elt Ideal) fe) (i 0).val r d (p + j)
  | 0, p, L, _, _ => by rw [Finset.sum_range_zero, add_zero]; rfl
  | k + 1, p, L, hk, hq => by
    have hp : p < 1536 := by omega
    obtain ⟨hlo, hhi⟩ := hq ⟨p, hp⟩ le_rfl (by show p < p + (k + 1); omega)
    have h3 : k0_chk3 i (idAt arg1 ft ⟨p, hp⟩) := chk3_of i _ hlo hhi
    have h2 : k0_chk2 (BitVec.ofNat 32 p) := chk2_of p hp
    rw [trips, dif_pos hp, dif_pos h3, dif_pos h2]
    rw [trips_value r d k (p + 1) _ (by omega) (fun q h1 h2 => hq q (by omega) (by omega))]
    rw [trip_value i arg1 ft arg8 arg10 fe p hp hlo hhi h3 h2 L r d, Finset.sum_range_succ', add_assoc]
    refine congrArg₂ (· + ·) rfl ?_
    rw [add_comm, Nat.add_zero]
    refine congrArg₂ (· + ·) (Finset.sum_congr rfl fun j _ => ?_) rfl
    congr 1; omega

end

/-- Between the positions that split the ids at a tile's bounds lie the positions whose ids name a row of the tile. -/
theorem rows_sum (ids : Fin 1536 → BitVec 32) (E : FVec Ideal S1536x384 .f32) (t : ℕ) (r : Fin 512) (d : Fin 384) (p p' : ℕ)
    (hp : Split ids (512 * t) p) (hp' : Split ids (512 * (t + 1)) p') :
    ∑ j ∈ Finset.range (p' - p), rowTerm ids E t r d (p + j)
      = ∑ q : Fin 1536, if (ids q).toInt = ((512 * t + r.val : ℕ) : ℤ) then (E (ix2 q d) : EReal) else 0 := by
  have hpp : p ≤ p' := split_mono hp hp' (Nat.mul_le_mul_left 512 (Nat.le_succ _))
  have hR : (∑ q : Fin 1536, if (ids q).toInt = ((512 * t + r.val : ℕ) : ℤ) then (E (ix2 q d) : EReal) else 0)
      = ∑ q ∈ Finset.range 1536, rowTerm ids E t r d q := by
    rw [Finset.sum_range]
    refine Finset.sum_congr rfl fun q _ => ?_
    unfold rowTerm
    rw [dif_pos q.isLt]
  rw [hR, ← Finset.sum_Ico_eq_sum_range]
  refine Finset.sum_subset (fun q hq => ?_) (fun q hq hn => ?_)
  · rw [Finset.mem_Ico] at hq; rw [Finset.mem_range]; have := hp'.1; omega
  · rw [Finset.mem_range] at hq
    unfold rowTerm
    rw [dif_pos hq]
    refine if_neg fun h => hn ?_
    rw [Finset.mem_Ico]
    refine ⟨?_, (hp'.2 ⟨q, hq⟩).2 ?_⟩
    · by_contra hlt
      have := (hp.2 ⟨q, hq⟩).1 (by show q < p; omega)
      rw [h] at this
      push_cast at this; omega
    · rw [h]; push_cast; have := r.isLt; omega

end Cert.Proof.PI

end
-- ==== Proof.PI.Exact.lean ====
/-
  The kernel's run with the result's contents: if at every point the body leaves, on the part of the result's block the
  transfers move, that block of `G`, the program ends with the result at `G` on every block, the other buffers as in the
  frame.
-/
module

public import proofs.«01_k».proof.Proof.PI.Frame

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR nD τ) ℕ

variable (m : (ℓ : Loc nD τ sig) → Buf (Elt F) ℓ)
variable (G : (c : Dev nD) → Buf (Elt F) ((c : Thread nD τ).loc main_v12))

/-- The staging contents `X` are `G`'s block at point `t` on the part the transfers move. -/
def IsBlock (c : Dev nD) (t : Fin (C m).N) (X : S512x384.Idx → Elt F .f32) : Prop :=
  ((C m).win (6 : Fin 7)).cut ((C m).grid.coords t) X = (((C m).win (6 : Fin 7)).blk t).view.read (Elt F) (G c)

/-- The body leaves `G`'s blocks. -/
def LeavesBlocks : Prop :=
  ∀ (c : Dev nD) (t : Fin (C m).N) d0 d1 d2 d3, Leaves m c t (found m c (0 : Fin 7) t d0) (found m c (1 : Fin 7) t d1)
    (found m c (2 : Fin 7) t d2) (found m c (3 : Fin 7) t d3) (IsBlock m G c t)

/-- What the data leaves there is such. -/
theorem cut_after_6 (c : Dev nD) (t : Fin (C m).N) :
    ((C m).win (6 : Fin 7)).cut ((C m).grid.coords t) ((dats m G 0 c).after (6 : Fin 7) t) = (((C m).win (6 : Fin 7)).blk t).view.read (Elt F) (G c) := by
  show ((C m).win (6 : Fin 7)).cut ((C m).grid.coords t) (stg m c (fun w => left m G c (Pipeline.arrRef (C m).spec w)) (6 : Fin 7) t) = _
  unfold stg
  rw [Window.cut_fill]
  show (((C m).win (6 : Fin 7)).blk t).view.read (Elt F) (left m G c main_v12) = _
  unfold left
  rw [Function.update_self]

/-- Such contents are what the data leaves there. -/
theorem fill_after (c : Dev nD) (t : Fin (C m).N) (X : S512x384.Idx → Elt F .f32) (h : IsBlock m G c t X) :
    X = ((C m).win (6 : Fin 7)).fill ((C m).grid.coords t) X (((C m).win (6 : Fin 7)).cut ((C m).grid.coords t) ((dats m G 0 c).after (6 : Fin 7) t)) := by
  rw [cut_after_6]
  unfold IsBlock at h
  rw [← h]
  exact (((C m).win (6 : Fin 7)).fill_cut _ _).symm

theorem body_exact (hs : ∀ c, SortedIds (ids m c)) (hL : LeavesBlocks m G) (c : Dev nD) :
    BodyObligationLoose (dats m G 0 c) (defs₀ (F := F)) 𝒱₀ () Set.univ := fun t => by
  rw [bigSep_W0, bigSep_W0]
  rw [show (dats m G 0 c).Φ t.succ = inv m c (t.val + 1) from rfl, show (dats m G 0 c).Φ t.castSucc = inv m c t.val from rfl,
    show (dats m G 0 c).owesAt () t.succ = (dats m G 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  sl_whnfR [defs₀, Defs.onTc]
  iapply (point m c t (hs c) _ _ _ _ _ _ _ _ _ _ _ _ _ _ (found m c (0 : Fin 7) t d0) (found m c (1 : Fin 7) t d1) (found m c (2 : Fin 7) t d2)
    (found m c (3 : Fin 7) t d3) (found m c (4 : Fin 7) t d4) (found m c (5 : Fin 7) t d5) _ (emb_of m c t d4 d5) (IsBlock m G c t)
    (hL c t d0 d1 d2 d3) Set.univ _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %X %hX ⟨HΦ, H0, H1, H2, H3, H4, H5, H6⟩
  isplitl [HΦ]; · iexact HΦ
  isplitl [Ho]; · iexact Ho
  isplitl [H0]
  · iexists d0
    iapply (owns_congr c _ (cut_after m G c (0 : Fin 7) (arr_ne 0 (by decide)) t d0).symm)
    iexact H0
  isplitl [H1]
  · iapply (owns_congr c _ (after_of m G c (1 : Fin 7) (arr_ne 1 (by decide)) (fun _ _ => rfl) t d1).symm)
    iexact H1
  isplitl [H2]
  · iapply (owns_congr c _ (after_of m G c (2 : Fin 7) (arr_ne 2 (by decide)) (fun _ _ => rfl) t d2).symm)
    iexact H2
  isplitl [H3]
  · iapply (owns_congr c _ (after_of m G c (3 : Fin 7) (arr_ne 3 (by decide)) (fun _ _ => rfl) t d3).symm)
    iexact H3
  isplitl [H4]
  · iapply (owns_congr c _ (after_of m G c (4 : Fin 7) (arr_ne 4 (by decide)) (fun _ _ => rfl) t d4).symm)
    iexact H4
  isplitl [H5]
  · iapply (owns_congr c _ (after_of m G c (5 : Fin 7) (arr_ne 5 (by decide)) (fun _ _ => rfl) t d5).symm)
    iexact H5
  iexists X
  iapply (owns_congr c _ (fill_after m G c t X hX))
  iexact H6

theorem run_exact (ρ : Dev nD → PrngReg) (hs : ∀ c, SortedIds (ids m c)) (hL : LeavesBlocks m G) :
    θ_run defs (onTc (τ := τ) (main (F := F))) ⟨m, fun _ => 0, ρ⟩
      (fun r => Pipeline.FramePost (Pipeline.pin (pcfgs (F := F)) (tab m)) (dats m G) 0 (V m) r ∧ r.2.sem = fun _ => 0) :=
  Pipeline.θ_run_frameP_track (pcfgs (F := F)) (tab m) (dats m G) 0 launch0 defs₀ 𝒱₀ m ρ main
    (hbody := body_exact m G hs hL) (hshare := fun c => (dats m G 0 c).share_full fun _ => rfl) (howed := fun _ _ => rfl)
    (V := V m) (hmain := hmain m) (hA := fun _ _ => rfl) (hpf := hpf m) (hin := hin m) (hout := fun c => hout m c _)
    (Q' := fun r => Pipeline.FramePost (Pipeline.pin (pcfgs (F := F)) (tab m)) (dats m G) 0 (V m) r ∧ r.2.sem = fun _ => 0)
    (hQ' := fun _ h => h)

end Cert.Proof.PI
-- ==== Proof.PI.Arrays.lean ====
/-
  The windows' arrays, over the extended reals, at an index: each element is one element of an argument, the token `n`
  being position `n % 256` of batch row `n / 256`.
-/
module

public import proofs.«01_k».proof.Proof.PI.Host
public import Idealize.ShloMosaic.Lib.Pointwise
public import Idealize.ShloMosaic.Lib.Pipeline.ValueKit

@[expose] public section

set_option maxRecDepth 16384

noncomputable section

namespace Cert.Proof.PI

open Cert.KernelIdeal Cert.KernelIdeal.Gen
open Idealize.ShloMosaic
open Idealize.ShloMosaic.TcCoe

variable (m : (ℓ : Loc nD τ sig) → Buf (Elt Ideal) ℓ) (c : Dev nD)

/-- The batch row and the position of a token. -/
abbrev bOf (n : Fin 1536) : Fin 6 := ⟨n.val / 256, by omega⟩
abbrev sOf (n : Fin 1536) : Fin 256 := ⟨n.val % 256, by omega⟩

section
variable (a0 : FVec Ideal S6x256x30592 .fp8e5m2) (a1 : FVec Ideal S6x256x239 .f32) (a2 : FVec Ideal S6x256x384 .fp8e4m3)
  (a3 : FVec Ideal S6x256 .f32) (a5 : FVec Ideal S1536 .f32)

theorem codes_at (n : Fin 1536) (v : Fin 30592) :
    shapeCast S1536x30592 a0 shapeCasts_S6x256x30592_S1536x30592 (ix2 n v) = a0 (ix3 (bOf n) (sOf n) v) := by
  pointwise

theorem acts_at (d : Fin 384) (n : Fin 1536) :
    transpose S384x1536 [1, 0] (shapeCast S1536x384 a2 shapeCasts_S6x256x384_S1536x384) transposes_S1536x384_S384x1536_1_0 (ix2 d n)
      = a2 (ix3 (bOf n) (sOf n) d) := by
  pointwise

theorem actScales_at (n : Fin 1536) :
    (truncf .bf16 (shapeCast S1x1536 a3 shapeCasts_S6x256_S1x1536) bitsLt_bf16_f32 (ix2 (0 : Fin 1) n) : EReal)
      = (a3 (ix2 (bOf n) (sOf n)) : EReal) := by
  pointwise

theorem embScales_at (q : Fin 1536) :
    shapeCast S1536x1 a5 shapeCasts_S1536_S1536x1 (ix2 q (0 : Fin 1)) = a5 (ix1 q) := by
  pointwise

theorem scales_at (t : Fin 60) (n : Fin 1536) (e : Fin 4) (h : 4 * t.val + e.val < 239) :
    (shapeCast S60x48x128 (transpose S60x3x16x32x4 [3, 0, 2, 1, 4] (shapeCast S3x32x16x60x4
        (pad S1536x240 ![0, 0] ![0, 1] ![0, 0] (truncf .bf16 (shapeCast S1536x239 a1 shapeCasts_S6x256x239_S1536x239) bitsLt_bf16_f32)
          (sitofp .bf16 (constantI S_ 32 0#32) : FVec Ideal S_ .bf16) pads_S1536x239_S1536x240_000_010)
        shapeCasts_S1536x240_S3x32x16x60x4) transposes_S3x32x16x60x4_S60x3x16x32x4_3_0_2_1_4) shapeCasts_S60x3x16x32x4_S60x48x128
      (ix3 t ⟨16 * (n.val / 512) + n.val % 16, by omega⟩ ⟨4 * (n.val / 16 % 32) + e.val, by omega⟩) : EReal)
      = (a1 (ix3 (bOf n) (sOf n) ⟨4 * t.val + e.val, h⟩) : EReal) := by
  pointwise
  rw [dif_pos (by omega : t.val * 4 + e.val < 239)]
  exact congrArg (fun k : Fin 239 => a1 (ix3 (bOf n) (sOf n) k)) (Fin.ext (by show t.val * 4 + e.val = 4 * t.val + e.val; omega))
end

end Cert.Proof.PI

end
-- ==== Proof.PI.Found.lean ====
/-
  What the body finds in its staging buffers at a point, over the extended reals: each element, in terms of the arguments.
  Of the logit gradients' block only the columns inside the array are spoken of.
-/
module

public import proofs.«01_k».proof.Proof.PI.Exact
public import proofs.«01_k».proof.Proof.PI.Arrays

@[expose] public section

set_option maxRecDepth 16384

noncomputable section

namespace Cert.Proof.PI

open Cert.KernelIdeal Cert.KernelIdeal.Gen
open Idealize.ShloMosaic
open Idealize.ShloMosaic.TcCoe
open Idealize.ShloMosaic.Pipeline (Window)

variable (m : (ℓ : Loc nD τ sig) → Buf (Elt Ideal) ℓ) (c : Dev nD) (t : Fin (C m).N)

/-- The point's number. -/
theorem t_lt : t.val < 60 := by
  have h : t.val < grid0.N := t.isLt
  rwa [N_0] at h

theorem ix_coords : (grid0.coords t 0).val = t.val := coords_val t

/-- A coordinate of a block inside the array is among those a transfer moves, -/
theorem lt_extent {ix k d j : ℕ} (hj : j < k) (h : ix * k + j < d) : j < (Pipeline.Clip.of ix k d).extent k := by
  unfold Pipeline.Clip.of
  split
  · exact hj
  · show j < d - ix * k
    omega
/-- and one that a transfer moves is inside the array. -/
theorem of_lt_extent {ix k d j : ℕ} (h : j < (Pipeline.Clip.of ix k d).extent k) : ix * k + j < d := by
  unfold Pipeline.Clip.of at h
  split at h
  · rename_i hn
    rw [Nat.succ_mul] at hn
    have : j < k := h
    omega
  · have : j < d - ix * k := h
    omega

theorem bv_toNat (n : ℕ) (h : n < 60) : (BitVec.ofNat 32 n).toNat = n := by
  rw [BitVec.toNat_ofNat]; omega

theorem found0_at (d) (n : Fin 1536) (r : Fin 512) (h : 512 * t.val + r.val < 30592) :
    found m c (0 : Fin 7) t d (ix2 n r) = (m ((c.tc : Thread nD τ).loc main_arg0) : FVec Ideal S6x256x30592 .fp8e5m2) (ix3 (bOf n) (sOf n) ⟨512 * t.val + r.val, h⟩) := by
  have hix : cc0_transform_0 (grid0.coords t) = ![0, t.val] := by
    show ![(0#32).toNat, (BitVec.ofNat 32 (grid0.coords t 0).val).toNat] = _
    rw [ix_coords, bv_toNat _ (t_lt m t)]; rfl
  have hm : ∀ a, ((ix2 n r : S1536x512.Idx) a).val < ((C m).win (0 : Fin 7)).xsize ((C m).grid.coords t) a := by
    intro a
    show _ < (clip0_0 (grid0.coords t) a).extent (S1536x512.size a)
    unfold clip0_0
    rw [hix]
    fin_cases a
    · exact lt_extent n.isLt (by show 0 * 1536 + n.val < 1536; omega)
    · exact lt_extent r.isLt (by show t.val * 512 + r.val < 30592; omega)
  unfold found Window.fill
  rw [dif_pos ((((C m).win (0 : Fin 7)).moved_iff _ _).mpr hm)]
  refine Eq.trans ?_ ((congrFun (V_v0 m c) _).trans (codes_at _ n ⟨512 * t.val + r.val, h⟩))
  show V m c main_v0 _ = V m c main_v0 _
  congr 1
  funext a
  apply Fin.ext
  fin_cases a
  · show cc0_transform_0 (grid0.coords t) 0 * 1536 + 1 * n.val = n.val
    rw [hix]; show 0 * 1536 + 1 * n.val = n.val; omega
  · show cc0_transform_0 (grid0.coords t) 1 * 512 + 1 * r.val = 512 * t.val + r.val
    rw [hix]; show t.val * 512 + 1 * r.val = 512 * t.val + r.val; omega

theorem found1_at (d) (a : Fin 48) (b : Fin 128) :
    found m c (1 : Fin 7) t d (ix3 (0 : Fin 1) a b) = (V m c main_v10 : FVec Ideal S60x48x128 .bf16) (ix3 ⟨t.val, t_lt m t⟩ a b) := by
  have hix : cc0_transform_1 (grid0.coords t) = ![t.val, 0, 0] := by
    show ![(BitVec.ofNat 32 (grid0.coords t 0).val).toNat, (0#32).toNat, (0#32).toNat] = _
    rw [ix_coords, bv_toNat _ (t_lt m t)]; rfl
  have hm : ∀ x, ((ix3 (0 : Fin 1) a b : S1x48x128.Idx) x).val < ((C m).win (1 : Fin 7)).xsize ((C m).grid.coords t) x :=
    fun x => (ix3 (0 : Fin 1) a b x).isLt
  unfold found Window.fill
  rw [dif_pos ((((C m).win (1 : Fin 7)).moved_iff _ _).mpr hm)]
  show V m c main_v10 _ = V m c main_v10 _
  congr 1
  funext x
  apply Fin.ext
  fin_cases x
  · show cc0_transform_1 (grid0.coords t) 0 * 1 + 1 * 0 = t.val
    rw [hix]; show t.val * 1 + 1 * 0 = t.val; omega
  · show cc0_transform_1 (grid0.coords t) 1 * 48 + 1 * a.val = a.val
    rw [hix]; show 0 * 48 + 1 * a.val = a.val; omega
  · show cc0_transform_1 (grid0.coords t) 2 * 128 + 1 * b.val = b.val
    rw [hix]; show 0 * 128 + 1 * b.val = b.val; omega

theorem found2_at (d) (e : Fin 384) (n : Fin 1536) :
    found m c (2 : Fin 7) t d (ix2 e n) = (m ((c.tc : Thread nD τ).loc main_arg2) : FVec Ideal S6x256x384 .fp8e4m3) (ix3 (bOf n) (sOf n) e) := by
  have hm : ∀ x, ((ix2 e n : S384x1536.Idx) x).val < ((C m).win (2 : Fin 7)).xsize ((C m).grid.coords t) x :=
    fun x => (ix2 e n x).isLt
  unfold found Window.fill
  rw [dif_pos ((((C m).win (2 : Fin 7)).moved_iff _ _).mpr hm)]
  refine Eq.trans ?_ ((congrFun (V_v2 m c) _).trans (acts_at _ e n))
  show V m c main_v2 _ = V m c main_v2 _
  congr 1
  funext x
  apply Fin.ext
  fin_cases x
  · show 0 * 384 + 1 * e.val = e.val; omega
  · show 0 * 1536 + 1 * n.val = n.val; omega

theorem found3_at (d) (n : Fin 1536) :
    (found m c (3 : Fin 7) t d (ix2 (0 : Fin 1) n) : EReal)
      = ((m ((c.tc : Thread nD τ).loc main_arg3) : FVec Ideal S6x256 .f32) (ix2 (bOf n) (sOf n)) : EReal) := by
  have hm : ∀ x, ((ix2 (0 : Fin 1) n : S1x1536.Idx) x).val < ((C m).win (3 : Fin 7)).xsize ((C m).grid.coords t) x :=
    fun x => (ix2 (0 : Fin 1) n x).isLt
  unfold found Window.fill
  rw [dif_pos ((((C m).win (3 : Fin 7)).moved_iff _ _).mpr hm)]
  refine Eq.trans ?_ ((congrFun (V_v4 m c) _).trans (actScales_at _ n))
  show V m c main_v4 _ = V m c main_v4 _
  congr 1
  funext x
  apply Fin.ext
  fin_cases x
  · show 0 * 1 + 1 * 0 = 0; omega
  · show 0 * 1536 + 1 * n.val = n.val; omega

/-- The scaled embedding gradients kept in scratch. -/
theorem emb_at (a4 : FVec Ideal S1536x384 .fp8e5m2) (a5 : FVec Ideal S1536 .f32) (h4 : m ((c.tc : Thread nD τ).loc main_arg4) = a4)
    (h5 : m ((c.tc : Thread nD τ).loc main_arg5) = a5) (q : Fin 1536) (e : Fin 384) :
    (emb m c (ix2 q e) : EReal) = (a4 (ix2 q e) : EReal) * (a5 (ix1 q) : EReal) := by
  subst h4 h5
  have h2 : ∀ (X : FVec Ideal S1536x384 .fp8e5m2) (Y : FVec Ideal S1536x1 .f32),
      (k0_pay2 (F := Ideal) X Y (ix2 q e) : EReal) = (X (ix2 q e) : EReal) * (Y (ix2 q (0 : Fin 1)) : EReal) := by
    intro X Y; pointwise [k0_pay2]
  unfold emb
  refine (h2 _ _).trans (congrArg₂ (· * ·) ?_ ?_)
  · have hm : ∀ x, ((ix2 q e : S1536x384.Idx) x).val < ((C m).win (4 : Fin 7)).xsize ((C m).grid.coords (t₀ m)) x :=
      fun x => (ix2 q e x).isLt
    unfold stg Window.fill
    rw [dif_pos ((((C m).win (4 : Fin 7)).moved_iff _ _).mpr hm)]
    refine Eq.trans ?_ (congrFun (V_unwritten m c main_arg4 (by decide)) _)
    show V m c main_arg4 _ = V m c main_arg4 _
    congr 1
    funext x
    apply Fin.ext
    fin_cases x
    · show 0 * 1536 + 1 * q.val = q.val; omega
    · show 0 * 384 + 1 * e.val = e.val; omega
  · have hm : ∀ x, ((ix2 q (0 : Fin 1) : S1536x1.Idx) x).val < ((C m).win (5 : Fin 7)).xsize ((C m).grid.coords (t₀ m)) x :=
      fun x => (ix2 q (0 : Fin 1) x).isLt
    unfold stg Window.fill
    rw [dif_pos ((((C m).win (5 : Fin 7)).moved_iff _ _).mpr hm)]
    refine Eq.trans ?_ ((congrFun (V_v11 m c) _).trans (embScales_at _ q))
    show V m c main_v11 _ = V m c main_v11 _
    congr 1
    funext x
    apply Fin.ext
    fin_cases x
    · show 0 * 1536 + 1 * q.val = q.val; omega
    · show 0 * 1 + 1 * 0 = 0; omega

/-- Staging contents that agree with `G` inside the array are its block. -/
theorem isBlock_of (G : (c : Dev nD) → Buf (Elt Ideal) ((c : Thread nD τ).loc main_v12)) (X : S512x384.Idx → Elt Ideal .f32)
    (h : ∀ (r : Fin 512) (d : Fin 384) (hr : 512 * t.val + r.val < 30592), X (ix2 r d) = (G c : FVec Ideal S30592x384 .f32) (ix2 ⟨512 * t.val + r.val, hr⟩ d)) :
    IsBlock m G c t X := by
  have hix : cc0_transform_6 (grid0.coords t) = ![t.val, 0] := by
    show ![(BitVec.ofNat 32 (grid0.coords t 0).val).toNat, (0#32).toNat] = _
    rw [ix_coords, bv_toNat _ (t_lt m t)]; rfl
  unfold IsBlock
  funext y
  have hy0 : (y (0 : Fin 2)).val < (clip0_6 (grid0.coords t) 0).extent (S512x384.size 0) := (y (0 : Fin 2)).isLt
  have hy1 : (y (1 : Fin 2)).val < (clip0_6 (grid0.coords t) 1).extent (S512x384.size 1) := (y (1 : Fin 2)).isLt
  have hle0 : (y (0 : Fin 2)).val < 512 := Nat.lt_of_lt_of_le hy0 (((C m).win (6 : Fin 7)).xsize_le ((C m).grid.coords t) (0 : Fin 2))
  have hle1 : (y (1 : Fin 2)).val < 384 := Nat.lt_of_lt_of_le hy1 (((C m).win (6 : Fin 7)).xsize_le ((C m).grid.coords t) (1 : Fin 2))
  have hin : 512 * t.val + (y (0 : Fin 2)).val < 30592 := by
    unfold clip0_6 at hy0
    rw [hix] at hy0
    have := of_lt_extent hy0
    have h' : t.val * 512 + (y (0 : Fin 2)).val < 30592 := this
    omega
  have e1 : ((C m).win (6 : Fin 7)).xinj ((C m).grid.coords t) y = (ix2 ⟨(y (0 : Fin 2)).val, hle0⟩ ⟨(y (1 : Fin 2)).val, hle1⟩ : S512x384.Idx) := by
    funext a; apply Fin.ext; fin_cases a <;> rfl
  show X (((C m).win (6 : Fin 7)).xinj ((C m).grid.coords t) y) = _
  rw [e1, h _ _ hin]
  show (G c : FVec Ideal S30592x384 .f32) _ = (G c : FVec Ideal S30592x384 .f32) _
  congr 1
  funext a
  apply Fin.ext
  fin_cases a
  · show 512 * t.val + (y (0 : Fin 2)).val = cc0_transform_6 (grid0.coords t) 0 * 512 + 1 * (y (0 : Fin 2)).val
    rw [hix]; show _ = t.val * 512 + 1 * (y (0 : Fin 2)).val; omega
  · show (y (1 : Fin 2)).val = cc0_transform_6 (grid0.coords t) 1 * 384 + 1 * (y (1 : Fin 2)).val
    rw [hix]; show _ = 0 * 384 + 1 * (y (1 : Fin 2)).val; omega

end Cert.Proof.PI

end
-- ==== Proof.PI.Value.lean ====
/-
  The kernel's result over the extended reals: from sorted ids the program ends with the result at `dw` of its arguments
  and its arguments unchanged.
-/
module

public import proofs.«01_k».proof.Proof.Spec
public import proofs.«01_k».proof.Proof.PI.Tile
public import proofs.«01_k».proof.Proof.PI.TripsValue
public import proofs.«01_k».proof.Proof.PI.Found
public import Idealize.ShloMosaic.Lib.Pipeline.Covers

@[expose] public section

set_option maxRecDepth 16384

noncomputable section

namespace Cert.Proof.PI

open Cert.KernelIdeal Cert.KernelIdeal.Gen
open Idealize.ShloMosaic
open Idealize.ShloMosaic.TcCoe
open Idealize.SL.Sem

/-- A sum over the batch rows and positions is the sum over the tokens. -/
theorem sum_tokens (f : Fin 6 → Fin 256 → EReal) : ∑ b : Fin 6, ∑ s : Fin 256, f b s = ∑ n : Fin 1536, f (bOf n) (sOf n) := by
  refine (Fin.sum_univ_mul_divNat_modNat 6 256 f).symm.trans ?_
  exact Finset.sum_congr rfl fun n _ => rfl

variable (m : (ℓ : Loc nD τ sig) → Buf (Elt Ideal) ℓ)

/-- The result: the embedding and head gradient of the arguments. -/
def G (c : Dev nD) : Buf (Elt Ideal) ((c : Thread nD τ).loc main_v12) :=
  fun i : S30592x384.Idx => (dw (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (fun q => m ((c.tc : Thread nD τ).loc main_arg6) (ix1 q)) (i 0) (i 1) : EReal)

/-- The scaled gradients of the block found at a point, at a column inside the array. -/
theorem gsc_at (c : Dev nD) (t : Fin (C m).N) (d0) (d1) (a0 : FVec Ideal S6x256x30592 .fp8e5m2) (a1 : FVec Ideal S6x256x239 .f32)
    (h0 : m ((c.tc : Thread nD τ).loc main_arg0) = a0) (h1 : m ((c.tc : Thread nD τ).loc main_arg1) = a1)
    (n : Fin 1536) (r : Fin 512) (hr : 512 * t.val + r.val < 30592) :
    gsc (found m c (0 : Fin 7) t d0) (found m c (1 : Fin 7) t d1) n r
      = (a0 (ix3 (bOf n) (sOf n) ⟨512 * t.val + r.val, hr⟩) : EReal) * (a1 (ix3 (bOf n) (sOf n) ⟨(512 * t.val + r.val) / 128, by omega⟩) : EReal) := by
  subst h0 h1
  unfold gsc
  refine congrArg₂ (fun a b : EReal => a * b) (found0_at m c t d0 n r hr) ?_
  rw [found1_at]
  refine (congrFun (V_v10 m c) _).trans ((scales_at _ ⟨t.val, t_lt m t⟩ n ⟨r.val / 128, by omega⟩ (by show 4 * t.val + r.val / 128 < 239; omega)).trans ?_)
  refine congrArg (fun k : Fin 239 => (m ((c.tc : Thread nD τ).loc main_arg1) : FVec Ideal S6x256x239 .f32) (ix3 (bOf n) (sOf n) k)) (Fin.ext ?_)
  show 4 * t.val + r.val / 128 = (512 * t.val + r.val) / 128
  omega

/-- At every point the body leaves the result's block. -/
theorem leaves : LeavesBlocks m (G m) := by
  intro c t d0 d1 d2 d3 arg2 harg2 arg3 harg3 arg4 harg4 arg5 harg5 arg6 harg6 arg7 harg7 arg8 harg8 f2 f3 f4 f5 fe p p' e2 e3 e4 e5 he hp hp'
  refine isBlock_of m c t (G m) _ fun r d hr => ?_
  have hct := ix_coords m t
  have hz : (![0, 0] : Fin 2 → Nat) = fun _ => 0 := funext fun a => by fin_cases a <;> rfl
  rw [View.read_writes_junk_eq_canon]
  have hids : ids m c = fun q => m ((c.tc : Thread nD τ).loc main_arg6) (ix1 q) := funext (ids_eq m c)
  refine (trips_value (c := c) (grid0.coords t) (Memref.whole main_arg6) (V m c main_arg6) arg8 (Memref.whole cc0_scratch1) fe r d (p' - p) p _
    (by have := hp'.1; have := split_mono hp hp' (Nat.mul_le_mul_left 512 (Nat.le_succ _)); omega) ?_).trans ?_
  · intro q h1 h2
    rw [hct]
    exact ⟨not_lt.mp fun h => by have := (hp.2 q).mpr h; omega, (hp'.2 q).mp (by omega)⟩
  show _ = dw _ _ _ _ _ _ _ (⟨512 * t.val + r.val, hr⟩ : Fin 30592) d
  unfold dw
  refine congrArg₂ (fun a b : EReal => a + b) ?_ ?_
  · refine (congrFun (View.canon_unit_zero hz _ _) (ix2 r d)).trans ((tile_value c (grid0.coords t) _ _ _ _ _ _ _ _ _ _ _ _ _ _ _ _ _ _ _ _ _ _ f2 f3 f4 f5 r d).trans ?_)
    rw [e2, e3, e4, e5, sum_tokens]
    refine Finset.sum_congr rfl fun n _ => ?_
    rw [gsc_at m c t d0 d1 _ _ rfl rfl n r hr]
    refine (mul_comm (_ : EReal) _).trans ?_
    refine congrArg₂ (fun a b : EReal => a * b) rfl (congrArg₂ (fun a b : EReal => a * b) ?_ ?_)
    · exact found2_at m c t d2 d n
    · exact found3_at m c t d3 n
  · rw [hct, he]
    refine (rows_sum (ids m c) (emb m c) t.val r d p p' hp hp').trans ?_
    rw [hids]
    refine Finset.sum_congr rfl fun q _ => ?_
    rw [emb_at m c _ _ rfl rfl q d]

/-- The result's blocks cover its array. -/
theorem covers : ((C m).win (6 : Fin 7)).Covers := by
  refine Pipeline.Window.covers_of_indexMap_surj _ rfl ?_ fun β => ?_
  · intro a
    fin_cases a
    · show 0 < 512
      omega
    · show 0 < 384
      omega
  have h0 : (β (0 : Fin 2)).val < 60 := lt_of_lt_of_eq (β (0 : Fin 2)).isLt (by show (30592 + 512 - 1) / 512 = 60; norm_num)
  have h1 : (β (1 : Fin 2)).val < 1 := lt_of_lt_of_eq (β (1 : Fin 2)).isLt (by show (384 + 384 - 1) / 384 = 1; norm_num)
  refine ⟨(fun x => ⟨(β (0 : Fin 2)).val, lt_of_lt_of_eq h0 (by fin_cases x; rfl)⟩ : grid0.Coords), fun a => ?_⟩
  fin_cases a
  · show (BitVec.ofNat 32 (β (0 : Fin 2)).val).toNat = (β (0 : Fin 2)).val
    exact bv_toNat _ h0
  · show (0#32).toNat = (β (1 : Fin 2)).val
    rw [show (0#32).toNat = 0 from rfl]; omega

/-- The result's array after the last point. -/
theorem final (c : Dev nD) : (dats m (G m) 0 c).arrAt (6 : Fin 7) (C m).N = G m c :=
  (dats m (G m) 0 c).arrAt_eq_of_cover (6 : Fin 7) (G m c) (fun t _ => cut_after_6 m (G m) c t)
    (Pipeline.Window.Covers.cover _ (covers m) (Memref.isWhole_whole _))

/-- The kernel's program runs to its end with `dw` of its arguments as the result and its arguments unchanged. -/
theorem run (ρ : Dev nD → PrngReg) (hs : ∀ c : Dev nD, SortedIds (fun q => m ((c.tc : Thread nD τ).loc main_arg6) (ix1 q))) :
    θ_run defs (onTc (τ := τ) (main (F := Ideal))) ⟨m, fun _ => 0, ρ⟩ (fun r => ∀ c : Dev nD,
      (r.2.mem ((c.tc : Thread nD τ).loc main_v12) : FVec Ideal S30592x384 .f32) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hs' : ∀ c, SortedIds (ids m c) := fun c => by
    rw [show ids m c = fun q => m ((c.tc : Thread nD τ).loc main_arg6) (ix1 q) from funext (ids_eq m c)]
    exact hs c
  refine (θ_run defs _ _).mono (fun r h c => ⟨?_, ?_, ?_, ?_, ?_, ?_, ?_, ?_⟩) (run_exact m (G m) ρ hs' (leaves m))
  · exact ((h.1 c).1 (6 : Fin 7)).trans (final m c)
  · exact ((h.1 c).2 main_arg0 (Pipeline.mem_restRefs_of main_arg0 (by decide) (by exact (by decide : ∀ w, Pipeline.arrRef spec0 w ≠ main_arg0)))).trans (V_unwritten m c main_arg0 (by decide))
  · exact ((h.1 c).2 main_arg1 (Pipeline.mem_restRefs_of main_arg1 (by decide) (by exact (by decide : ∀ w, Pipeline.arrRef spec0 w ≠ main_arg1)))).trans (V_unwritten m c main_arg1 (by decide))
  · exact ((h.1 c).2 main_arg2 (Pipeline.mem_restRefs_of main_arg2 (by decide) (by exact (by decide : ∀ w, Pipeline.arrRef spec0 w ≠ main_arg2)))).trans (V_unwritten m c main_arg2 (by decide))
  · exact ((h.1 c).2 main_arg3 (Pipeline.mem_restRefs_of main_arg3 (by decide) (by exact (by decide : ∀ w, Pipeline.arrRef spec0 w ≠ main_arg3)))).trans (V_unwritten m c main_arg3 (by decide))
  · exact (((h.1 c).1 (4 : Fin 7)).trans ((dats m (G m) 0 c).arrAt_in (4 : Fin 7) rfl _)).trans (V_unwritten m c main_arg4 (by decide))
  · exact ((h.1 c).2 main_arg5 (Pipeline.mem_restRefs_of main_arg5 (by decide) (by exact (by decide : ∀ w, Pipeline.arrRef spec0 w ≠ main_arg5)))).trans (V_unwritten m c main_arg5 (by decide))
  · exact ((h.1 c).2 main_arg6 (Pipeline.mem_restRefs_of main_arg6 (by decide) (by exact (by decide : ∀ w, Pipeline.arrRef spec0 w ≠ main_arg6)))).trans (V_unwritten m c main_arg6 (by decide))

end Cert.Proof.PI

end
-- ==== Proof.RI.Value.lean ====
/-
  The reference's result over the extended reals: `dw` of the arguments.
-/
module

public import proofs.«01_k».proof.Proof.Gen.ReferenceIdeal.Run
public import proofs.«01_k».proof.Proof.Spec
public import Idealize.ShloMosaic.Lib.Pipeline.ValueKit
public import Idealize.ShloMosaic.Lib.Tactic.CleanTypes
public import Idealize.ShloMosaic.Lib.Routing.OpsPair

@[expose] public section

set_option maxRecDepth 16384

noncomputable section

namespace Cert.Proof.RI

open Cert.ReferenceIdeal Cert.ReferenceIdeal.Gen Cert.ReferenceIdeal.Value
open Idealize.ShloMosaic
open Idealize.ShloMosaic.TcCoe
open Idealize.SL.Sem

section Arrays
variable {F : FTy → Type} [FloatOps F]
variable (m : (ℓ : Loc nD τ sig) → Buf (Elt F) ℓ)

/-- Input 0 is staged whole. -/
theorem blk_0 (c : Dev nD) : iblk m c 0 t0_0 = m ((c.tc : Thread nD τ).loc main_arg0) := by
  funext y
  unfold iblk
  rw [View.read_apply]
  refine congrArg (m ((c.tc : Thread nD τ).loc main_arg0)) (funext fun a => Fin.ext ?_)
  blk_simp
  rw [(by decide +kernel : ∀ a, win0_0.index t0_0 a = 0) a, Nat.zero_mul, Nat.zero_add]

/-- Input 1 is staged whole. -/
theorem blk_1 (c : Dev nD) : iblk m c 1 t0_0 = m ((c.tc : Thread nD τ).loc main_arg1) := by
  funext y
  unfold iblk
  rw [View.read_apply]
  refine congrArg (m ((c.tc : Thread nD τ).loc main_arg1)) (funext fun a => Fin.ext ?_)
  blk_simp
  rw [(by decide +kernel : ∀ a, win0_1.index t0_0 a = 0) a, Nat.zero_mul, Nat.zero_add]

/-- Input 2 is staged whole. -/
theorem blk_2 (c : Dev nD) : iblk m c 2 t0_0 = m ((c.tc : Thread nD τ).loc main_arg2) := by
  funext y
  unfold iblk
  rw [View.read_apply]
  refine congrArg (m ((c.tc : Thread nD τ).loc main_arg2)) (funext fun a => Fin.ext ?_)
  blk_simp
  rw [(by decide +kernel : ∀ a, win0_2.index t0_0 a = 0) a, Nat.zero_mul, Nat.zero_add]

/-- Input 3 is staged whole. -/
theorem blk_3 (c : Dev nD) : iblk m c 3 t0_0 = m ((c.tc : Thread nD τ).loc main_arg3) := by
  funext y
  unfold iblk
  rw [View.read_apply]
  refine congrArg (m ((c.tc : Thread nD τ).loc main_arg3)) (funext fun a => Fin.ext ?_)
  blk_simp
  rw [(by decide +kernel : ∀ a, win0_3.index t0_0 a = 0) a, Nat.zero_mul, Nat.zero_add]

/-- Input 4 is staged whole. -/
theorem blk_4 (c : Dev nD) : iblk m c 4 t0_0 = m ((c.tc : Thread nD τ).loc main_arg4) := by
  funext y
  unfold iblk
  rw [View.read_apply]
  refine congrArg (m ((c.tc : Thread nD τ).loc main_arg4)) (funext fun a => Fin.ext ?_)
  blk_simp
  rw [(by decide +kernel : ∀ a, win0_4.index t0_0 a = 0) a, Nat.zero_mul, Nat.zero_add]

/-- Input 5 is staged whole. -/
theorem blk_5 (c : Dev nD) : iblk m c 5 t0_0 = m ((c.tc : Thread nD τ).loc main_arg5) := by
  funext y
  unfold iblk
  rw [View.read_apply]
  refine congrArg (m ((c.tc : Thread nD τ).loc main_arg5)) (funext fun a => Fin.ext ?_)
  blk_simp
  rw [(by decide +kernel : ∀ a, win0_5.index t0_0 a = 0) a, Nat.zero_mul, Nat.zero_add]

/-- The region leaves the scaled logit gradients in its first result. -/
theorem reg_0 (c : Dev nD) : reg_main_v0_0 m c = k0_pay1 (m ((c.tc : Thread nD τ).loc main_arg0)) (m ((c.tc : Thread nD τ).loc main_arg1)) := by
  unfold reg_main_v0_0
  refine (dats m 0 c).arrAt_eq_of_after_last 6 t0_0 (by decide +kernel) _ fun j => ?_
  rw [after0_6]
  frame_out
  rw [blk_0 m c, blk_1 m c, View.emb_whole]
  rfl

/-- It leaves the scaled activations in its second. -/
theorem reg_1 (c : Dev nD) : reg_main_v0_1 m c = k0_pay2 (m ((c.tc : Thread nD τ).loc main_arg2)) (m ((c.tc : Thread nD τ).loc main_arg3)) := by
  unfold reg_main_v0_1
  refine (dats m 0 c).arrAt_eq_of_after_last 7 t0_0 (by decide +kernel) _ fun j => ?_
  rw [after0_7]
  frame_out
  rw [blk_2 m c, blk_3 m c, View.emb_whole]
  rfl

/-- It leaves the scaled embedding gradients in its third. -/
theorem reg_2 (c : Dev nD) : reg_main_v0_2 m c = k0_pay3 (m ((c.tc : Thread nD τ).loc main_arg4)) (m ((c.tc : Thread nD τ).loc main_arg5)) := by
  unfold reg_main_v0_2
  refine (dats m 0 c).arrAt_eq_of_after_last 8 t0_0 (by decide +kernel) _ fun j => ?_
  rw [after0_8]
  frame_out
  rw [blk_4 m c, blk_5 m c, View.emb_whole]
  rfl

end Arrays

/-- Update `(q, e)` of the segment sum lands at row `v`, column `d` exactly when position `q`'s id is `v` and `e` is `d`. -/
theorem lands (a6 : IVec S1536 32) (q : Fin 1536) (e : Fin 384) (v : Fin 30592) (d : Fin 384) :
    scatter_S30592x384_S1536x1_S1536x384_1_0_0_1.resultIdx? (ix2 q e) (broadcastInDim S1536x1 ![0] bcast_S1536_S1536x1_0 a6) = some (ix2 v d)
      ↔ (a6 (ix1 q)).toInt = (v.val : ℤ) ∧ e = d := by
  rw [Routing.resultIdx?_eq_some]
  have hs0 : scatter_S30592x384_S1536x1_S1536x384_1_0_0_1.start (ix2 q e) (broadcastInDim S1536x1 ![0] bcast_S1536_S1536x1_0 a6) 0 = (a6 (ix1 q)).toInt := by
    unfold ScatterDims.start
    rw [dif_pos (by decide)]
    pointwise
    rfl
  have hs1 : scatter_S30592x384_S1536x1_S1536x384_1_0_0_1.start (ix2 q e) (broadcastInDim S1536x1 ![0] bcast_S1536_S1536x1_0 a6) 1 = 0 := by
    unfold ScatterDims.start
    rw [dif_neg (by decide)]
  have hw0 : scatter_S30592x384_S1536x1_S1536x384_1_0_0_1.window (ix2 q e) 0 = 0 := by
    unfold ScatterDims.window
    rw [dif_neg (by decide)]
  have hw1 : scatter_S30592x384_S1536x1_S1536x384_1_0_0_1.window (ix2 q e) 1 = e.val := by
    unfold ScatterDims.window
    rw [dif_pos (by decide)]
    rfl
  constructor
  · intro h
    have h0 := h 0
    have h1 := h 1
    rw [hs0, hw0] at h0
    rw [hs1, hw1] at h1
    refine ⟨by simpa using h0, Fin.ext ?_⟩
    have : ((e.val : ℕ) : ℤ) = (d.val : ℤ) := by simpa using h1
    exact_mod_cast this
  · rintro ⟨h0, rfl⟩ a
    fin_cases a
    · show ScatterDims.start _ _ _ 0 + ((ScatterDims.window _ _ 0 : ℕ) : ℤ) = (v.val : ℤ)
      rw [hs0, hw0, h0]; simp
    · show ScatterDims.start _ _ _ 1 + ((ScatterDims.window _ _ 1 : ℕ) : ℤ) = (e.val : ℤ)
      rw [hs1, hw1]; simp

/-- The reference's result from what the region leaves. -/
theorem value (a0 : FVec Ideal S6x256x30592 .fp8e5m2) (a1 : FVec Ideal S6x256x239 .f32) (a2 : FVec Ideal S6x256x384 .fp8e4m3)
    (a3 : FVec Ideal S6x256 .f32) (a4 : FVec Ideal S1536x384 .fp8e5m2) (a5 : FVec Ideal S1536 .f32) (a6 : IVec S1536 32)
    (v : Fin 30592) (d : Fin 384) :
    addf (Host.dotGeneral (F := Ideal) dot_S6x256x30592_S6x256x384_S30592x384_01_01_2_2_n_n none (k0_pay1 a0 a1) (k0_pay2 a2 a3) : FVec Ideal S30592x384 .f32)
      (Host.scatterAdd scatter_S30592x384_S1536x1_S1536x384_1_0_0_1 (broadcastInDim S30592x384 ![] bcast_S_S30592x384 (constant S_ .f32 0x00000000#32))
        (broadcastInDim S1536x1 ![0] bcast_S1536_S1536x1_0 a6) (k0_pay3 a4 a5)) (ix2 v d)
      = dw a0 a1 a2 a3 a4 a5 (fun q => a6 (ix1 q)) v d := by
  pointwise [k0_pay1, k0_pay2, Host.scatterAdd]
  rw [Ideal.hostScatterAdd_def]
  unfold Ideal.hostScatterAdd dw
  refine congrArg₂ (· + ·) rfl ?_
  rw [Finset.sum_filter, sum_idx2]
  have h0 : (broadcastInDim S30592x384 ![] bcast_S_S30592x384 (constant S_ .f32 0x00000000#32 : FVec Ideal S_ .f32)) (ix2 v d) = (0 : EReal) := by
    pointwise
  rw [h0, zero_add]
  refine Finset.sum_congr rfl fun q _ => ?_
  by_cases hq : (a6 (ix1 q)).toInt = (v.val : ℤ)
  · rw [if_pos hq, Finset.sum_eq_single d]
    · rw [if_pos ((lands a6 q d v d).2 ⟨hq, rfl⟩)]
      pointwise [k0_pay3]
    · intro e _ he
      rw [if_neg fun h => he ((lands a6 q e v d).1 h).2]
    · exact fun h => absurd (Finset.mem_univ _) h
  · rw [if_neg hq]
    exact Finset.sum_eq_zero fun e _ => if_neg fun h => hq ((lands a6 q e v d).1 h).1

/-- The reference runs to its end with `dw` of its arguments as the result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v5) : FVec Ideal S30592x384 .f32) = (fun i => dw (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (fun q => m ((c.tc : Thread nD τ).loc main_arg6) (ix1 q)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨?_, (h c).2⟩) (Cert.ReferenceIdeal.Value.run m ρ)
  refine (h c).1.trans ?_
  rw [reg_0, reg_1, reg_2]
  funext i
  rw [eq_ix2 i]
  exact value _ _ _ _ _ _ _ _ _

end Cert.Proof.RI

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Pre_ids_sorted
public import proofs.«01_k».proof.Proof.Pre
public import proofs.«01_k».proof.Proof.P.Frame
public import proofs.«01_k».proof.Proof.PI.Frame
public import proofs.«01_k».proof.Proof.PI.Value
public import proofs.«01_k».proof.Proof.RI.Value
public import Idealize.ShloMosaic.Adequacy
public import Idealize.ShloMosaic.Init

@[expose] public section

noncomputable section

namespace Cert.Proof

open Idealize.ShloMosaic Idealize.SL.Sem Cert.Kernel

/-- From the same arguments, with sorted ids, the kernel and the reference end with the same result over the extended reals. -/
theorem algebraic : algebraic_KernelIdeal_ReferenceIdeal (hKernelIdeal := Cert.KernelIdeal.Gen.facts)
    (hReferenceIdeal := Cert.ReferenceIdeal.Gen.facts) (hPre_ids_sorted := Cert.Pre_ids_sorted.Gen.facts) := by
  intro m g m' g' hpre hagree
  refine ⟨fun c => Cert.Proof.PI.G m c, Cert.Proof.PI.run m g fun c => sortedIds_of_pre _ _ _ _ _ _ _ (hpre c), ?_⟩
  refine (θ_run _ _ _).mono (fun r h c => ⟨(h c).1.trans ?_, (h c).2⟩) (Cert.Proof.RI.run m' g')
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_ids_sorted.Gen.facts,
  fun m g hpre => Cert.Proof.P.frame m g fun c => sortedIds_of_pre _ _ _ _ _ _ _ (hpre c),
  fun m g hpre => Cert.Proof.PI.frame m g fun c => sortedIds_of_pre _ _ _ _ _ _ _ (hpre c),
  fun m g _ => Cert.ReferenceIdeal.Gen.frame m g,
  fun m g _ => Cert.ReferenceIdeal.Gen.frame m g,
  trivial,
  algebraic⟩

end Cert.Proof

end
